-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0123_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0123_Kernel [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0123_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel_pi_0123_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0123_Kernel [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0123_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0123_Kernel [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0123_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_pi_1230_ReferenceIdeal : Cert.Pre_pi_1230_ReferenceIdeal.Facts) (hPre_pi_2301_ReferenceIdeal : Cert.Pre_pi_2301_ReferenceIdeal.Facts) (hPre_pi_3012_ReferenceIdeal : Cert.Pre_pi_3012_ReferenceIdeal.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2310_ReferenceIdeal : Cert.Pre_pi_2310_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts) (hPre_pi_1230_Kernel : Cert.Pre_pi_1230_Kernel.Facts) (hPre_pi_2301_Kernel : Cert.Pre_pi_2301_Kernel.Facts) (hPre_pi_3012_Kernel : Cert.Pre_pi_3012_Kernel.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2310_Kernel : Cert.Pre_pi_2310_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts),
    quiescent_ReferenceIdeal (hReferenceIdeal := hReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ quiescent_Kernel (hKernel := hKernel) (hPre_pi_1230_Kernel := hPre_pi_1230_Kernel)
    ∧ quiescent_Kernel_pre_pi_2301_Kernel (hKernel := hKernel) (hPre_pi_2301_Kernel := hPre_pi_2301_Kernel)
    ∧ quiescent_Kernel_pre_pi_3012_Kernel (hKernel := hKernel) (hPre_pi_3012_Kernel := hPre_pi_3012_Kernel)
    ∧ quiescent_Kernel_pre_pi_0123_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2310_Kernel (hKernel := hKernel) (hPre_pi_2310_Kernel := hPre_pi_2310_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_1230_Kernel := hPre_pi_1230_Kernel)
    ∧ quiescent_KernelIdeal_pre_pi_2301_Kernel (hKernelIdeal := hKernelIdeal) (hPre_pi_2301_Kernel := hPre_pi_2301_Kernel)
    ∧ quiescent_KernelIdeal_pre_pi_3012_Kernel (hKernelIdeal := hKernelIdeal) (hPre_pi_3012_Kernel := hPre_pi_3012_Kernel)
    ∧ quiescent_KernelIdeal_pre_pi_0123_Kernel (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2310_Kernel (hKernelIdeal := hKernelIdeal) (hPre_pi_2310_Kernel := hPre_pi_2310_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ preserves_Kernel_KernelIdeal
    ∧ algebraic_KernelIdeal_ReferenceIdeal (hKernelIdeal := hKernelIdeal) (hReferenceIdeal := hReferenceIdeal) (hPre_pi_1230_Kernel := hPre_pi_1230_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_0123_Kernel (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_0123_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_0132_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_0132_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_0213_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_0213_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_0231_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_0231_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_0312_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_0312_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_0321_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_0321_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_1023_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_1023_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_1032_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_1032_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_1203_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_1203_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_1230_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_1230_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_1302_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_1302_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_1320_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_1320_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_2013_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_2013_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_2031_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_2031_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_2103_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_2103_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_pi_2130_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_2130_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_2301_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_2301_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_2310_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_2310_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_3012_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_3012_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_3021_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_3021_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_3102_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_3102_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_pi_3120_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_3120_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_3201_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_3201_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_pi_3210_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_pi_3210_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel.lean ====
abbrev S1x2048x1024 : Shape := ⟨3, ![1, 2048, 1024]⟩
abbrev S4 : Shape := ⟨1, ![4]⟩
abbrev S72 : Shape := ⟨1, ![72]⟩
abbrev S1 : Shape := ⟨1, ![1]⟩
abbrev S_ : Shape := ⟨0, ![]⟩
abbrev S1x32x1024 : Shape := ⟨3, ![1, 32, 1024]⟩

abbrev nBuf : Space → Nat
  | .hbm => 3
  | .vmem => 1
  | .smem => 1
  | _ => 0

abbrev bufTy : (tb : Table) → Fin (tcTables nBuf tb) → BufTy
  | .hbm, ⟨0, _⟩ => ⟨S1x2048x1024, .f32⟩
  | .hbm, ⟨1, _⟩ => ⟨S4, .i32⟩
  | .hbm, ⟨2, _⟩ => ⟨S1x2048x1024, .f32⟩
  | .local _ .vmem, ⟨0, _⟩ => ⟨S1x2048x1024, .f32⟩
  | .local _ .smem, ⟨0, _⟩ => ⟨S4, .i32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 146 → Bool
  | ⟨i, _⟩ => dmaSemScopedAt i

abbrev sig : RefSig :=
  (ofTc nBuf bufTy 1 146 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v11 : BitVec 32) (v14 : BitVec 32) (v17 : BitVec 32) (v20 : BitVec 32) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v59 : BitVec 32 := Scalar.muli v2 c16_i32_30
  let v60 : BitVec 32 := Scalar.addi c0_i32_31 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_32 : BitVec 32 := 4#32
  let v61 : BitVec 32 := Scalar.muli v22 c4_i32_32
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v63 : BitVec 32 := Scalar.muli v8 c1_i32_33
  let v64 : BitVec 32 := Scalar.addi v62 v63
  v64.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_35 : BitVec 32 := 16#32
  let v65 : BitVec 32 := Scalar.muli v54 c16_i32_35
  let v66 : BitVec 32 := Scalar.addi c0_i32_36 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v67 : BitVec 32 := Scalar.muli v5 c4_i32_37
  let v68 : BitVec 32 := Scalar.addi v66 v67
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_38 : BitVec 32 := 1#32
  let v69 : BitVec 32 := Scalar.muli v57 c1_i32_38
  let v70 : BitVec 32 := Scalar.addi v68 v69
  v70.toNat
def k0_dev3 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_40 : BitVec 32 := 16#32
  let v71 : BitVec 32 := Scalar.muli v38 c16_i32_40
  let v72 : BitVec 32 := Scalar.addi c0_i32_41 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v73 : BitVec 32 := Scalar.muli v5 c4_i32_42
  let v74 : BitVec 32 := Scalar.addi v72 v73
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_43 : BitVec 32 := 1#32
  let v75 : BitVec 32 := Scalar.muli v41 c1_i32_43
  let v76 : BitVec 32 := Scalar.addi v74 v75
  v76.toNat
def k0_off2 (d0 : Dev nD) : Fin 3 → Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c256_i32_46 : BitVec 32 := 256#32
  let v79 : BitVec 32 := Scalar.muli v25 c256_i32_46
  let c0_i32_47 : BitVec 32 := 0#32
  let v80 : BitVec 32 := Scalar.addi v79 c0_i32_47
  let c0_i32_54 : BitVec 32 := 0#32
  ![0, v80.toNat, 0]
def k0_dev4 (d0 : Dev nD) (v10 : BitVec 32) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v81 : BitVec 32 := Scalar.muli v2 c16_i32_49
  let v82 : BitVec 32 := Scalar.addi c0_i32_50 v81
  let c4_i32_51 : BitVec 32 := 4#32
  let v83 : BitVec 32 := Scalar.muli v10 c4_i32_51
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v85 : BitVec 32 := Scalar.muli v8 c1_i32_52
  let v86 : BitVec 32 := Scalar.addi v84 v85
  v86.toNat

def k0_off3 (d0 : Dev nD) (c32_i32_59 : BitVec 32) : Fin 3 → Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c256_i32_58 : BitVec 32 := 256#32
  let v95 : BitVec 32 := Scalar.muli v25 c256_i32_58
  let v96 : BitVec 32 := Scalar.addi v95 c32_i32_59
  let c0_i32_66 : BitVec 32 := 0#32
  ![0, v96.toNat, 0]
def k0_dev5 (d0 : Dev nD) (v10 : BitVec 32) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v97 : BitVec 32 := Scalar.muli v2 c16_i32_61
  let v98 : BitVec 32 := Scalar.addi c0_i32_62 v97
  let c4_i32_63 : BitVec 32 := 4#32
  let v99 : BitVec 32 := Scalar.muli v10 c4_i32_63
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v101 : BitVec 32 := Scalar.muli v8 c1_i32_64
  let v102 : BitVec 32 := Scalar.addi v100 v101
  v102.toNat
def k0_dev6 (d0 : Dev nD) (v10 : BitVec 32) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v113 : BitVec 32 := Scalar.muli v2 c16_i32_74
  let v114 : BitVec 32 := Scalar.addi c0_i32_75 v113
  let c4_i32_76 : BitVec 32 := 4#32
  let v115 : BitVec 32 := Scalar.muli v10 c4_i32_76
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v117 : BitVec 32 := Scalar.muli v8 c1_i32_77
  let v118 : BitVec 32 := Scalar.addi v116 v117
  v118.toNat
def k0_dev7 (d0 : Dev nD) (v10 : BitVec 32) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_86 : BitVec 32 := 16#32
  let v129 : BitVec 32 := Scalar.muli v2 c16_i32_86
  let v130 : BitVec 32 := Scalar.addi c0_i32_87 v129
  let c4_i32_88 : BitVec 32 := 4#32
  let v131 : BitVec 32 := Scalar.muli v10 c4_i32_88
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v133 : BitVec 32 := Scalar.muli v8 c1_i32_89
  let v134 : BitVec 32 := Scalar.addi v132 v133
  v134.toNat
def k0_dev8 (d0 : Dev nD) (v10 : BitVec 32) : Nat :=
  let c0_i32_99 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_98 : BitVec 32 := 16#32
  let v145 : BitVec 32 := Scalar.muli v2 c16_i32_98
  let v146 : BitVec 32 := Scalar.addi c0_i32_99 v145
  let c4_i32_100 : BitVec 32 := 4#32
  let v147 : BitVec 32 := Scalar.muli v10 c4_i32_100
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v149 : BitVec 32 := Scalar.muli v8 c1_i32_101
  let v150 : BitVec 32 := Scalar.addi v148 v149
  v150.toNat
def k0_dev9 (d0 : Dev nD) (v10 : BitVec 32) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v161 : BitVec 32 := Scalar.muli v2 c16_i32_109
  let v162 : BitVec 32 := Scalar.addi c0_i32_110 v161
  let c4_i32_111 : BitVec 32 := 4#32
  let v163 : BitVec 32 := Scalar.muli v10 c4_i32_111
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v165 : BitVec 32 := Scalar.muli v8 c1_i32_112
  let v166 : BitVec 32 := Scalar.addi v164 v165
  v166.toNat
def k0_dev10 (d0 : Dev nD) (v10 : BitVec 32) : Nat :=
  let c0_i32_121 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_120 : BitVec 32 := 16#32
  let v177 : BitVec 32 := Scalar.muli v2 c16_i32_120
  let v178 : BitVec 32 := Scalar.addi c0_i32_121 v177
  let c4_i32_122 : BitVec 32 := 4#32
  let v179 : BitVec 32 := Scalar.muli v10 c4_i32_122
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v181 : BitVec 32 := Scalar.muli v8 c1_i32_123
  let v182 : BitVec 32 := Scalar.addi v180 v181
  v182.toNat
def k0_dev11 (d0 : Dev nD) (v10 : BitVec 32) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v193 : BitVec 32 := Scalar.muli v2 c16_i32_132
  let v194 : BitVec 32 := Scalar.addi c0_i32_133 v193
  let c4_i32_134 : BitVec 32 := 4#32
  let v195 : BitVec 32 := Scalar.muli v10 c4_i32_134
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v197 : BitVec 32 := Scalar.muli v8 c1_i32_135
  let v198 : BitVec 32 := Scalar.addi v196 v197
  v198.toNat

def k0_chk2 (d0 : Dev nD) (v10 : BitVec 32) : Prop :=
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD)
theorem k0_dev4_lt : ∀ (d0 : Dev nD) (v10 : BitVec 32) (k0_hw2 : k0_chk2 d0 v10), (k0_dev4 d0 v10) < nD := fun d0 v10 k0_hw2 => k0_hw2.1
theorem k0_dev5_lt : ∀ (d0 : Dev nD) (v10 : BitVec 32) (k0_hw2 : k0_chk2 d0 v10), (k0_dev5 d0 v10) < nD := fun d0 v10 k0_hw2 => k0_hw2.2.1
theorem k0_dev6_lt : ∀ (d0 : Dev nD) (v10 : BitVec 32) (k0_hw2 : k0_chk2 d0 v10), (k0_dev6 d0 v10) < nD := fun d0 v10 k0_hw2 => k0_hw2.2.2.1
theorem k0_dev7_lt : ∀ (d0 : Dev nD) (v10 : BitVec 32) (k0_hw2 : k0_chk2 d0 v10), (k0_dev7 d0 v10) < nD := fun d0 v10 k0_hw2 => k0_hw2.2.2.2.1
theorem k0_dev8_lt : ∀ (d0 : Dev nD) (v10 : BitVec 32) (k0_hw2 : k0_chk2 d0 v10), (k0_dev8 d0 v10) < nD := fun d0 v10 k0_hw2 => k0_hw2.2.2.2.2.1
theorem k0_dev9_lt : ∀ (d0 : Dev nD) (v10 : BitVec 32) (k0_hw2 : k0_chk2 d0 v10), (k0_dev9 d0 v10) < nD := fun d0 v10 k0_hw2 => k0_hw2.2.2.2.2.2.1
theorem k0_dev10_lt : ∀ (d0 : Dev nD) (v10 : BitVec 32) (k0_hw2 : k0_chk2 d0 v10), (k0_dev10 d0 v10) < nD := fun d0 v10 k0_hw2 => k0_hw2.2.2.2.2.2.2.1
theorem k0_dev11_lt : ∀ (d0 : Dev nD) (v10 : BitVec 32) (k0_hw2 : k0_chk2 d0 v10), (k0_dev11 d0 v10) < nD := fun d0 v10 k0_hw2 => k0_hw2.2.2.2.2.2.2.2

def k0_dev12 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_163 : BitVec 32 := 16#32
  let v223 : BitVec 32 := Scalar.muli v38 c16_i32_163
  let v224 : BitVec 32 := Scalar.addi c0_i32_164 v223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_165 : BitVec 32 := 4#32
  let v225 : BitVec 32 := Scalar.muli v5 c4_i32_165
  let v226 : BitVec 32 := Scalar.addi v224 v225
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_166 : BitVec 32 := 1#32
  let v227 : BitVec 32 := Scalar.muli v41 c1_i32_166
  let v228 : BitVec 32 := Scalar.addi v226 v227
  v228.toNat
def k0_dev13 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_176 : BitVec 32 := 16#32
  let v239 : BitVec 32 := Scalar.muli v54 c16_i32_176
  let v240 : BitVec 32 := Scalar.addi c0_i32_177 v239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v241 : BitVec 32 := Scalar.muli v5 c4_i32_178
  let v242 : BitVec 32 := Scalar.addi v240 v241
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_179 : BitVec 32 := 1#32
  let v243 : BitVec 32 := Scalar.muli v57 c1_i32_179
  let v244 : BitVec 32 := Scalar.addi v242 v243
  v244.toNat
def k0_dev14 (d0 : Dev nD) : Nat :=
  let c0_i32_207 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_206 : BitVec 32 := 16#32
  let v269 : BitVec 32 := Scalar.muli v38 c16_i32_206
  let v270 : BitVec 32 := Scalar.addi c0_i32_207 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_208 : BitVec 32 := 4#32
  let v271 : BitVec 32 := Scalar.muli v5 c4_i32_208
  let v272 : BitVec 32 := Scalar.addi v270 v271
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_209 : BitVec 32 := 1#32
  let v273 : BitVec 32 := Scalar.muli v41 c1_i32_209
  let v274 : BitVec 32 := Scalar.addi v272 v273
  v274.toNat
def k0_dev15 (d0 : Dev nD) : Nat :=
  let c0_i32_219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_218 : BitVec 32 := 16#32
  let v285 : BitVec 32 := Scalar.muli v54 c16_i32_218
  let v286 : BitVec 32 := Scalar.addi c0_i32_219 v285
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_220 : BitVec 32 := 4#32
  let v287 : BitVec 32 := Scalar.muli v5 c4_i32_220
  let v288 : BitVec 32 := Scalar.addi v286 v287
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_221 : BitVec 32 := 1#32
  let v289 : BitVec 32 := Scalar.muli v57 c1_i32_221
  let v290 : BitVec 32 := Scalar.addi v288 v289
  v290.toNat
def k0_dev16 (d0 : Dev nD) : Nat :=
  let c0_i32_249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_248 : BitVec 32 := 16#32
  let v315 : BitVec 32 := Scalar.muli v38 c16_i32_248
  let v316 : BitVec 32 := Scalar.addi c0_i32_249 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v317 : BitVec 32 := Scalar.muli v5 c4_i32_250
  let v318 : BitVec 32 := Scalar.addi v316 v317
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_251 : BitVec 32 := 1#32
  let v319 : BitVec 32 := Scalar.muli v41 c1_i32_251
  let v320 : BitVec 32 := Scalar.addi v318 v319
  v320.toNat
def k0_dev17 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_260 : BitVec 32 := 16#32
  let v331 : BitVec 32 := Scalar.muli v54 c16_i32_260
  let v332 : BitVec 32 := Scalar.addi c0_i32_261 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v333 : BitVec 32 := Scalar.muli v5 c4_i32_262
  let v334 : BitVec 32 := Scalar.addi v332 v333
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_263 : BitVec 32 := 1#32
  let v335 : BitVec 32 := Scalar.muli v57 c1_i32_263
  let v336 : BitVec 32 := Scalar.addi v334 v335
  v336.toNat
def k0_dev18 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_290 : BitVec 32 := 16#32
  let v361 : BitVec 32 := Scalar.muli v38 c16_i32_290
  let v362 : BitVec 32 := Scalar.addi c0_i32_291 v361
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_292 : BitVec 32 := 4#32
  let v363 : BitVec 32 := Scalar.muli v5 c4_i32_292
  let v364 : BitVec 32 := Scalar.addi v362 v363
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_293 : BitVec 32 := 1#32
  let v365 : BitVec 32 := Scalar.muli v41 c1_i32_293
  let v366 : BitVec 32 := Scalar.addi v364 v365
  v366.toNat
def k0_dev19 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_302 : BitVec 32 := 16#32
  let v377 : BitVec 32 := Scalar.muli v54 c16_i32_302
  let v378 : BitVec 32 := Scalar.addi c0_i32_303 v377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v379 : BitVec 32 := Scalar.muli v5 c4_i32_304
  let v380 : BitVec 32 := Scalar.addi v378 v379
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_305 : BitVec 32 := 1#32
  let v381 : BitVec 32 := Scalar.muli v57 c1_i32_305
  let v382 : BitVec 32 := Scalar.addi v380 v381
  v382.toNat
def k0_dev20 (d0 : Dev nD) : Nat :=
  let c0_i32_333 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_332 : BitVec 32 := 16#32
  let v407 : BitVec 32 := Scalar.muli v38 c16_i32_332
  let v408 : BitVec 32 := Scalar.addi c0_i32_333 v407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_334 : BitVec 32 := 4#32
  let v409 : BitVec 32 := Scalar.muli v5 c4_i32_334
  let v410 : BitVec 32 := Scalar.addi v408 v409
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_335 : BitVec 32 := 1#32
  let v411 : BitVec 32 := Scalar.muli v41 c1_i32_335
  let v412 : BitVec 32 := Scalar.addi v410 v411
  v412.toNat
def k0_dev21 (d0 : Dev nD) : Nat :=
  let c0_i32_345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_344 : BitVec 32 := 16#32
  let v423 : BitVec 32 := Scalar.muli v54 c16_i32_344
  let v424 : BitVec 32 := Scalar.addi c0_i32_345 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v425 : BitVec 32 := Scalar.muli v5 c4_i32_346
  let v426 : BitVec 32 := Scalar.addi v424 v425
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_347 : BitVec 32 := 1#32
  let v427 : BitVec 32 := Scalar.muli v57 c1_i32_347
  let v428 : BitVec 32 := Scalar.addi v426 v427
  v428.toNat
def k0_dev22 (d0 : Dev nD) : Nat :=
  let c0_i32_375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_374 : BitVec 32 := 16#32
  let v453 : BitVec 32 := Scalar.muli v38 c16_i32_374
  let v454 : BitVec 32 := Scalar.addi c0_i32_375 v453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_376 : BitVec 32 := 4#32
  let v455 : BitVec 32 := Scalar.muli v5 c4_i32_376
  let v456 : BitVec 32 := Scalar.addi v454 v455
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_377 : BitVec 32 := 1#32
  let v457 : BitVec 32 := Scalar.muli v41 c1_i32_377
  let v458 : BitVec 32 := Scalar.addi v456 v457
  v458.toNat
def k0_dev23 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_386 : BitVec 32 := 16#32
  let v469 : BitVec 32 := Scalar.muli v54 c16_i32_386
  let v470 : BitVec 32 := Scalar.addi c0_i32_387 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v471 : BitVec 32 := Scalar.muli v5 c4_i32_388
  let v472 : BitVec 32 := Scalar.addi v470 v471
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_389 : BitVec 32 := 1#32
  let v473 : BitVec 32 := Scalar.muli v57 c1_i32_389
  let v474 : BitVec 32 := Scalar.addi v472 v473
  v474.toNat
def k0_dev24 (d0 : Dev nD) : Nat :=
  let c0_i32_417 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_416 : BitVec 32 := 16#32
  let v499 : BitVec 32 := Scalar.muli v38 c16_i32_416
  let v500 : BitVec 32 := Scalar.addi c0_i32_417 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_418 : BitVec 32 := 4#32
  let v501 : BitVec 32 := Scalar.muli v5 c4_i32_418
  let v502 : BitVec 32 := Scalar.addi v500 v501
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_419 : BitVec 32 := 1#32
  let v503 : BitVec 32 := Scalar.muli v41 c1_i32_419
  let v504 : BitVec 32 := Scalar.addi v502 v503
  v504.toNat
def k0_dev25 (d0 : Dev nD) : Nat :=
  let c0_i32_429 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_428 : BitVec 32 := 16#32
  let v515 : BitVec 32 := Scalar.muli v54 c16_i32_428
  let v516 : BitVec 32 := Scalar.addi c0_i32_429 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_430 : BitVec 32 := 4#32
  let v517 : BitVec 32 := Scalar.muli v5 c4_i32_430
  let v518 : BitVec 32 := Scalar.addi v516 v517
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_431 : BitVec 32 := 1#32
  let v519 : BitVec 32 := Scalar.muli v57 c1_i32_431
  let v520 : BitVec 32 := Scalar.addi v518 v519
  v520.toNat
def k0_dev26 (d0 : Dev nD) : Nat :=
  let c0_i32_459 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_458 : BitVec 32 := 16#32
  let v545 : BitVec 32 := Scalar.muli v38 c16_i32_458
  let v546 : BitVec 32 := Scalar.addi c0_i32_459 v545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_460 : BitVec 32 := 4#32
  let v547 : BitVec 32 := Scalar.muli v5 c4_i32_460
  let v548 : BitVec 32 := Scalar.addi v546 v547
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_461 : BitVec 32 := 1#32
  let v549 : BitVec 32 := Scalar.muli v41 c1_i32_461
  let v550 : BitVec 32 := Scalar.addi v548 v549
  v550.toNat
def k0_dev27 (d0 : Dev nD) : Nat :=
  let c0_i32_471 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_470 : BitVec 32 := 16#32
  let v561 : BitVec 32 := Scalar.muli v54 c16_i32_470
  let v562 : BitVec 32 := Scalar.addi c0_i32_471 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_472 : BitVec 32 := 4#32
  let v563 : BitVec 32 := Scalar.muli v5 c4_i32_472
  let v564 : BitVec 32 := Scalar.addi v562 v563
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_473 : BitVec 32 := 1#32
  let v565 : BitVec 32 := Scalar.muli v57 c1_i32_473
  let v566 : BitVec 32 := Scalar.addi v564 v565
  v566.toNat
def k0_off4 (d0 : Dev nD) (c1_i32_478 : BitVec 32) (c0_i32_495 : BitVec 32) : Fin 3 → Nat :=
  let c0_i32_505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let v573 : BitVec 32 := Scalar.subi v25 c1_i32_478
  let c8_i32_479 : BitVec 32 := 8#32
  let c0_i32_480 : BitVec 32 := 0#32
  let v574 : BitVec 1 := Scalar.cmpi .eq c8_i32_479 c0_i32_480
  let c1_i32_481 : BitVec 32 := 1#32
  let v575 : BitVec 32 := Scalar.select v574 c1_i32_481 c8_i32_479
  let v576 : BitVec 32 := Scalar.remsi v573 v575
  let c0_i32_483 : BitVec 32 := 0#32
  let v578 : BitVec 1 := Scalar.cmpi .slt v576 c0_i32_483
  let c0_i32_484 : BitVec 32 := 0#32
  let v579 : BitVec 1 := Scalar.cmpi .slt v575 c0_i32_484
  let v580 : BitVec 1 := Scalar.xori v578 v579
  let c0_i32_482 : BitVec 32 := 0#32
  let v577 : BitVec 1 := Scalar.cmpi .ne v576 c0_i32_482
  let v581 : BitVec 1 := Scalar.andi v580 v577
  let v582 : BitVec 32 := Scalar.addi v576 v575
  let v583 : BitVec 32 := Scalar.select v581 v582 v576
  let c256_i32_494 : BitVec 32 := 256#32
  let v597 : BitVec 32 := Scalar.muli v583 c256_i32_494
  let v598 : BitVec 32 := Scalar.addi v597 c0_i32_495
  let c0_i32_506 : BitVec 32 := 0#32
  ![0, v598.toNat, 0]
def k0_dev28 (d0 : Dev nD) : Nat :=
  let c0_i32_516 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_515 : BitVec 32 := 16#32
  let v613 : BitVec 32 := Scalar.muli v38 c16_i32_515
  let v614 : BitVec 32 := Scalar.addi c0_i32_516 v613
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_517 : BitVec 32 := 4#32
  let v615 : BitVec 32 := Scalar.muli v5 c4_i32_517
  let v616 : BitVec 32 := Scalar.addi v614 v615
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_518 : BitVec 32 := 1#32
  let v617 : BitVec 32 := Scalar.muli v41 c1_i32_518
  let v618 : BitVec 32 := Scalar.addi v616 v617
  v618.toNat
def k0_off5 (d0 : Dev nD) (c1_i32_485 : BitVec 32) (c0_i32_526 : BitVec 32) : Fin 3 → Nat :=
  let c0_i32_536 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let v584 : BitVec 32 := Scalar.addi v25 c1_i32_485
  let c8_i32_486 : BitVec 32 := 8#32
  let c0_i32_487 : BitVec 32 := 0#32
  let v585 : BitVec 1 := Scalar.cmpi .eq c8_i32_486 c0_i32_487
  let c1_i32_488 : BitVec 32 := 1#32
  let v586 : BitVec 32 := Scalar.select v585 c1_i32_488 c8_i32_486
  let v587 : BitVec 32 := Scalar.remsi v584 v586
  let c0_i32_490 : BitVec 32 := 0#32
  let v589 : BitVec 1 := Scalar.cmpi .slt v587 c0_i32_490
  let c0_i32_491 : BitVec 32 := 0#32
  let v590 : BitVec 1 := Scalar.cmpi .slt v586 c0_i32_491
  let v591 : BitVec 1 := Scalar.xori v589 v590
  let c0_i32_489 : BitVec 32 := 0#32
  let v588 : BitVec 1 := Scalar.cmpi .ne v587 c0_i32_489
  let v592 : BitVec 1 := Scalar.andi v591 v588
  let v593 : BitVec 32 := Scalar.addi v587 v586
  let v594 : BitVec 32 := Scalar.select v592 v593 v587
  let c256_i32_525 : BitVec 32 := 256#32
  let v627 : BitVec 32 := Scalar.muli v594 c256_i32_525
  let v628 : BitVec 32 := Scalar.addi v627 c0_i32_526
  let c0_i32_537 : BitVec 32 := 0#32
  ![0, v628.toNat, 0]
def k0_dev29 (d0 : Dev nD) : Nat :=
  let c0_i32_546 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_545 : BitVec 32 := 16#32
  let v643 : BitVec 32 := Scalar.muli v54 c16_i32_545
  let v644 : BitVec 32 := Scalar.addi c0_i32_546 v643
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_547 : BitVec 32 := 4#32
  let v645 : BitVec 32 := Scalar.muli v5 c4_i32_547
  let v646 : BitVec 32 := Scalar.addi v644 v645
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_548 : BitVec 32 := 1#32
  let v647 : BitVec 32 := Scalar.muli v57 c1_i32_548
  let v648 : BitVec 32 := Scalar.addi v646 v647
  v648.toNat
def k0_dev30 (d0 : Dev nD) : Nat :=
  let c0_i32_576 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_575 : BitVec 32 := 16#32
  let v673 : BitVec 32 := Scalar.muli v38 c16_i32_575
  let v674 : BitVec 32 := Scalar.addi c0_i32_576 v673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_577 : BitVec 32 := 4#32
  let v675 : BitVec 32 := Scalar.muli v5 c4_i32_577
  let v676 : BitVec 32 := Scalar.addi v674 v675
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_578 : BitVec 32 := 1#32
  let v677 : BitVec 32 := Scalar.muli v41 c1_i32_578
  let v678 : BitVec 32 := Scalar.addi v676 v677
  v678.toNat
def k0_dev31 (d0 : Dev nD) : Nat :=
  let c0_i32_606 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_605 : BitVec 32 := 16#32
  let v703 : BitVec 32 := Scalar.muli v54 c16_i32_605
  let v704 : BitVec 32 := Scalar.addi c0_i32_606 v703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_607 : BitVec 32 := 4#32
  let v705 : BitVec 32 := Scalar.muli v5 c4_i32_607
  let v706 : BitVec 32 := Scalar.addi v704 v705
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_608 : BitVec 32 := 1#32
  let v707 : BitVec 32 := Scalar.muli v57 c1_i32_608
  let v708 : BitVec 32 := Scalar.addi v706 v707
  v708.toNat
def k0_dev32 (d0 : Dev nD) : Nat :=
  let c0_i32_636 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_635 : BitVec 32 := 16#32
  let v733 : BitVec 32 := Scalar.muli v38 c16_i32_635
  let v734 : BitVec 32 := Scalar.addi c0_i32_636 v733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_637 : BitVec 32 := 4#32
  let v735 : BitVec 32 := Scalar.muli v5 c4_i32_637
  let v736 : BitVec 32 := Scalar.addi v734 v735
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_638 : BitVec 32 := 1#32
  let v737 : BitVec 32 := Scalar.muli v41 c1_i32_638
  let v738 : BitVec 32 := Scalar.addi v736 v737
  v738.toNat
def k0_dev33 (d0 : Dev nD) : Nat :=
  let c0_i32_666 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_665 : BitVec 32 := 16#32
  let v763 : BitVec 32 := Scalar.muli v54 c16_i32_665
  let v764 : BitVec 32 := Scalar.addi c0_i32_666 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_667 : BitVec 32 := 4#32
  let v765 : BitVec 32 := Scalar.muli v5 c4_i32_667
  let v766 : BitVec 32 := Scalar.addi v764 v765
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_668 : BitVec 32 := 1#32
  let v767 : BitVec 32 := Scalar.muli v57 c1_i32_668
  let v768 : BitVec 32 := Scalar.addi v766 v767
  v768.toNat
def k0_dev34 (d0 : Dev nD) : Nat :=
  let c0_i32_696 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_695 : BitVec 32 := 16#32
  let v793 : BitVec 32 := Scalar.muli v38 c16_i32_695
  let v794 : BitVec 32 := Scalar.addi c0_i32_696 v793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_697 : BitVec 32 := 4#32
  let v795 : BitVec 32 := Scalar.muli v5 c4_i32_697
  let v796 : BitVec 32 := Scalar.addi v794 v795
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_698 : BitVec 32 := 1#32
  let v797 : BitVec 32 := Scalar.muli v41 c1_i32_698
  let v798 : BitVec 32 := Scalar.addi v796 v797
  v798.toNat
def k0_dev35 (d0 : Dev nD) : Nat :=
  let c0_i32_726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_725 : BitVec 32 := 16#32
  let v823 : BitVec 32 := Scalar.muli v54 c16_i32_725
  let v824 : BitVec 32 := Scalar.addi c0_i32_726 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_727 : BitVec 32 := 4#32
  let v825 : BitVec 32 := Scalar.muli v5 c4_i32_727
  let v826 : BitVec 32 := Scalar.addi v824 v825
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_728 : BitVec 32 := 1#32
  let v827 : BitVec 32 := Scalar.muli v57 c1_i32_728
  let v828 : BitVec 32 := Scalar.addi v826 v827
  v828.toNat
def k0_dev36 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_755 : BitVec 32 := 16#32
  let v853 : BitVec 32 := Scalar.muli v38 c16_i32_755
  let v854 : BitVec 32 := Scalar.addi c0_i32_756 v853
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_757 : BitVec 32 := 4#32
  let v855 : BitVec 32 := Scalar.muli v5 c4_i32_757
  let v856 : BitVec 32 := Scalar.addi v854 v855
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_758 : BitVec 32 := 1#32
  let v857 : BitVec 32 := Scalar.muli v41 c1_i32_758
  let v858 : BitVec 32 := Scalar.addi v856 v857
  v858.toNat
def k0_dev37 (d0 : Dev nD) : Nat :=
  let c0_i32_786 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_785 : BitVec 32 := 16#32
  let v883 : BitVec 32 := Scalar.muli v54 c16_i32_785
  let v884 : BitVec 32 := Scalar.addi c0_i32_786 v883
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_787 : BitVec 32 := 4#32
  let v885 : BitVec 32 := Scalar.muli v5 c4_i32_787
  let v886 : BitVec 32 := Scalar.addi v884 v885
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_788 : BitVec 32 := 1#32
  let v887 : BitVec 32 := Scalar.muli v57 c1_i32_788
  let v888 : BitVec 32 := Scalar.addi v886 v887
  v888.toNat
def k0_dev38 (d0 : Dev nD) : Nat :=
  let c0_i32_816 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_815 : BitVec 32 := 16#32
  let v913 : BitVec 32 := Scalar.muli v38 c16_i32_815
  let v914 : BitVec 32 := Scalar.addi c0_i32_816 v913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_817 : BitVec 32 := 4#32
  let v915 : BitVec 32 := Scalar.muli v5 c4_i32_817
  let v916 : BitVec 32 := Scalar.addi v914 v915
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_818 : BitVec 32 := 1#32
  let v917 : BitVec 32 := Scalar.muli v41 c1_i32_818
  let v918 : BitVec 32 := Scalar.addi v916 v917
  v918.toNat
def k0_dev39 (d0 : Dev nD) : Nat :=
  let c0_i32_846 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_845 : BitVec 32 := 16#32
  let v943 : BitVec 32 := Scalar.muli v54 c16_i32_845
  let v944 : BitVec 32 := Scalar.addi c0_i32_846 v943
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_847 : BitVec 32 := 4#32
  let v945 : BitVec 32 := Scalar.muli v5 c4_i32_847
  let v946 : BitVec 32 := Scalar.addi v944 v945
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_848 : BitVec 32 := 1#32
  let v947 : BitVec 32 := Scalar.muli v57 c1_i32_848
  let v948 : BitVec 32 := Scalar.addi v946 v947
  v948.toNat
def k0_dev40 (d0 : Dev nD) : Nat :=
  let c0_i32_876 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_875 : BitVec 32 := 16#32
  let v973 : BitVec 32 := Scalar.muli v38 c16_i32_875
  let v974 : BitVec 32 := Scalar.addi c0_i32_876 v973
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_877 : BitVec 32 := 4#32
  let v975 : BitVec 32 := Scalar.muli v5 c4_i32_877
  let v976 : BitVec 32 := Scalar.addi v974 v975
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_878 : BitVec 32 := 1#32
  let v977 : BitVec 32 := Scalar.muli v41 c1_i32_878
  let v978 : BitVec 32 := Scalar.addi v976 v977
  v978.toNat
def k0_dev41 (d0 : Dev nD) : Nat :=
  let c0_i32_906 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_905 : BitVec 32 := 16#32
  let v1003 : BitVec 32 := Scalar.muli v54 c16_i32_905
  let v1004 : BitVec 32 := Scalar.addi c0_i32_906 v1003
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_907 : BitVec 32 := 4#32
  let v1005 : BitVec 32 := Scalar.muli v5 c4_i32_907
  let v1006 : BitVec 32 := Scalar.addi v1004 v1005
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_908 : BitVec 32 := 1#32
  let v1007 : BitVec 32 := Scalar.muli v57 c1_i32_908
  let v1008 : BitVec 32 := Scalar.addi v1006 v1007
  v1008.toNat
def k0_dev42 (d0 : Dev nD) : Nat :=
  let c0_i32_936 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_935 : BitVec 32 := 16#32
  let v1033 : BitVec 32 := Scalar.muli v38 c16_i32_935
  let v1034 : BitVec 32 := Scalar.addi c0_i32_936 v1033
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_937 : BitVec 32 := 4#32
  let v1035 : BitVec 32 := Scalar.muli v5 c4_i32_937
  let v1036 : BitVec 32 := Scalar.addi v1034 v1035
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_938 : BitVec 32 := 1#32
  let v1037 : BitVec 32 := Scalar.muli v41 c1_i32_938
  let v1038 : BitVec 32 := Scalar.addi v1036 v1037
  v1038.toNat
def k0_dev43 (d0 : Dev nD) : Nat :=
  let c0_i32_966 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_965 : BitVec 32 := 16#32
  let v1063 : BitVec 32 := Scalar.muli v54 c16_i32_965
  let v1064 : BitVec 32 := Scalar.addi c0_i32_966 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_967 : BitVec 32 := 4#32
  let v1065 : BitVec 32 := Scalar.muli v5 c4_i32_967
  let v1066 : BitVec 32 := Scalar.addi v1064 v1065
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_968 : BitVec 32 := 1#32
  let v1067 : BitVec 32 := Scalar.muli v57 c1_i32_968
  let v1068 : BitVec 32 := Scalar.addi v1066 v1067
  v1068.toNat
def k0_dev44 (d0 : Dev nD) : Nat :=
  let c0_i32_1010 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1009 : BitVec 32 := 16#32
  let v1115 : BitVec 32 := Scalar.muli v38 c16_i32_1009
  let v1116 : BitVec 32 := Scalar.addi c0_i32_1010 v1115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1011 : BitVec 32 := 4#32
  let v1117 : BitVec 32 := Scalar.muli v5 c4_i32_1011
  let v1118 : BitVec 32 := Scalar.addi v1116 v1117
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1012 : BitVec 32 := 1#32
  let v1119 : BitVec 32 := Scalar.muli v41 c1_i32_1012
  let v1120 : BitVec 32 := Scalar.addi v1118 v1119
  v1120.toNat
def k0_dev45 (d0 : Dev nD) : Nat :=
  let c0_i32_1040 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1039 : BitVec 32 := 16#32
  let v1145 : BitVec 32 := Scalar.muli v54 c16_i32_1039
  let v1146 : BitVec 32 := Scalar.addi c0_i32_1040 v1145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1041 : BitVec 32 := 4#32
  let v1147 : BitVec 32 := Scalar.muli v5 c4_i32_1041
  let v1148 : BitVec 32 := Scalar.addi v1146 v1147
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1042 : BitVec 32 := 1#32
  let v1149 : BitVec 32 := Scalar.muli v57 c1_i32_1042
  let v1150 : BitVec 32 := Scalar.addi v1148 v1149
  v1150.toNat
def k0_dev46 (d0 : Dev nD) : Nat :=
  let c0_i32_1070 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1069 : BitVec 32 := 16#32
  let v1175 : BitVec 32 := Scalar.muli v38 c16_i32_1069
  let v1176 : BitVec 32 := Scalar.addi c0_i32_1070 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1071 : BitVec 32 := 4#32
  let v1177 : BitVec 32 := Scalar.muli v5 c4_i32_1071
  let v1178 : BitVec 32 := Scalar.addi v1176 v1177
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1072 : BitVec 32 := 1#32
  let v1179 : BitVec 32 := Scalar.muli v41 c1_i32_1072
  let v1180 : BitVec 32 := Scalar.addi v1178 v1179
  v1180.toNat
def k0_dev47 (d0 : Dev nD) : Nat :=
  let c0_i32_1100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1099 : BitVec 32 := 16#32
  let v1205 : BitVec 32 := Scalar.muli v54 c16_i32_1099
  let v1206 : BitVec 32 := Scalar.addi c0_i32_1100 v1205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1101 : BitVec 32 := 4#32
  let v1207 : BitVec 32 := Scalar.muli v5 c4_i32_1101
  let v1208 : BitVec 32 := Scalar.addi v1206 v1207
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1102 : BitVec 32 := 1#32
  let v1209 : BitVec 32 := Scalar.muli v57 c1_i32_1102
  let v1210 : BitVec 32 := Scalar.addi v1208 v1209
  v1210.toNat
def k0_dev48 (d0 : Dev nD) : Nat :=
  let c0_i32_1130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1129 : BitVec 32 := 16#32
  let v1235 : BitVec 32 := Scalar.muli v38 c16_i32_1129
  let v1236 : BitVec 32 := Scalar.addi c0_i32_1130 v1235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1131 : BitVec 32 := 4#32
  let v1237 : BitVec 32 := Scalar.muli v5 c4_i32_1131
  let v1238 : BitVec 32 := Scalar.addi v1236 v1237
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1132 : BitVec 32 := 1#32
  let v1239 : BitVec 32 := Scalar.muli v41 c1_i32_1132
  let v1240 : BitVec 32 := Scalar.addi v1238 v1239
  v1240.toNat
def k0_dev49 (d0 : Dev nD) : Nat :=
  let c0_i32_1160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1159 : BitVec 32 := 16#32
  let v1265 : BitVec 32 := Scalar.muli v54 c16_i32_1159
  let v1266 : BitVec 32 := Scalar.addi c0_i32_1160 v1265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1161 : BitVec 32 := 4#32
  let v1267 : BitVec 32 := Scalar.muli v5 c4_i32_1161
  let v1268 : BitVec 32 := Scalar.addi v1266 v1267
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1162 : BitVec 32 := 1#32
  let v1269 : BitVec 32 := Scalar.muli v57 c1_i32_1162
  let v1270 : BitVec 32 := Scalar.addi v1268 v1269
  v1270.toNat
def k0_dev50 (d0 : Dev nD) : Nat :=
  let c0_i32_1190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1189 : BitVec 32 := 16#32
  let v1295 : BitVec 32 := Scalar.muli v38 c16_i32_1189
  let v1296 : BitVec 32 := Scalar.addi c0_i32_1190 v1295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1191 : BitVec 32 := 4#32
  let v1297 : BitVec 32 := Scalar.muli v5 c4_i32_1191
  let v1298 : BitVec 32 := Scalar.addi v1296 v1297
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1192 : BitVec 32 := 1#32
  let v1299 : BitVec 32 := Scalar.muli v41 c1_i32_1192
  let v1300 : BitVec 32 := Scalar.addi v1298 v1299
  v1300.toNat
def k0_dev51 (d0 : Dev nD) : Nat :=
  let c0_i32_1220 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1219 : BitVec 32 := 16#32
  let v1325 : BitVec 32 := Scalar.muli v54 c16_i32_1219
  let v1326 : BitVec 32 := Scalar.addi c0_i32_1220 v1325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1221 : BitVec 32 := 4#32
  let v1327 : BitVec 32 := Scalar.muli v5 c4_i32_1221
  let v1328 : BitVec 32 := Scalar.addi v1326 v1327
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1222 : BitVec 32 := 1#32
  let v1329 : BitVec 32 := Scalar.muli v57 c1_i32_1222
  let v1330 : BitVec 32 := Scalar.addi v1328 v1329
  v1330.toNat
def k0_dev52 (d0 : Dev nD) : Nat :=
  let c0_i32_1250 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1249 : BitVec 32 := 16#32
  let v1355 : BitVec 32 := Scalar.muli v38 c16_i32_1249
  let v1356 : BitVec 32 := Scalar.addi c0_i32_1250 v1355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1251 : BitVec 32 := 4#32
  let v1357 : BitVec 32 := Scalar.muli v5 c4_i32_1251
  let v1358 : BitVec 32 := Scalar.addi v1356 v1357
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1252 : BitVec 32 := 1#32
  let v1359 : BitVec 32 := Scalar.muli v41 c1_i32_1252
  let v1360 : BitVec 32 := Scalar.addi v1358 v1359
  v1360.toNat
def k0_dev53 (d0 : Dev nD) : Nat :=
  let c0_i32_1280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1279 : BitVec 32 := 16#32
  let v1385 : BitVec 32 := Scalar.muli v54 c16_i32_1279
  let v1386 : BitVec 32 := Scalar.addi c0_i32_1280 v1385
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1281 : BitVec 32 := 4#32
  let v1387 : BitVec 32 := Scalar.muli v5 c4_i32_1281
  let v1388 : BitVec 32 := Scalar.addi v1386 v1387
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1282 : BitVec 32 := 1#32
  let v1389 : BitVec 32 := Scalar.muli v57 c1_i32_1282
  let v1390 : BitVec 32 := Scalar.addi v1388 v1389
  v1390.toNat
def k0_dev54 (d0 : Dev nD) : Nat :=
  let c0_i32_1310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1309 : BitVec 32 := 16#32
  let v1415 : BitVec 32 := Scalar.muli v38 c16_i32_1309
  let v1416 : BitVec 32 := Scalar.addi c0_i32_1310 v1415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1311 : BitVec 32 := 4#32
  let v1417 : BitVec 32 := Scalar.muli v5 c4_i32_1311
  let v1418 : BitVec 32 := Scalar.addi v1416 v1417
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1312 : BitVec 32 := 1#32
  let v1419 : BitVec 32 := Scalar.muli v41 c1_i32_1312
  let v1420 : BitVec 32 := Scalar.addi v1418 v1419
  v1420.toNat
def k0_dev55 (d0 : Dev nD) : Nat :=
  let c0_i32_1340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1339 : BitVec 32 := 16#32
  let v1445 : BitVec 32 := Scalar.muli v54 c16_i32_1339
  let v1446 : BitVec 32 := Scalar.addi c0_i32_1340 v1445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1341 : BitVec 32 := 4#32
  let v1447 : BitVec 32 := Scalar.muli v5 c4_i32_1341
  let v1448 : BitVec 32 := Scalar.addi v1446 v1447
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1342 : BitVec 32 := 1#32
  let v1449 : BitVec 32 := Scalar.muli v57 c1_i32_1342
  let v1450 : BitVec 32 := Scalar.addi v1448 v1449
  v1450.toNat
def k0_dev56 (d0 : Dev nD) : Nat :=
  let c0_i32_1370 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1369 : BitVec 32 := 16#32
  let v1475 : BitVec 32 := Scalar.muli v38 c16_i32_1369
  let v1476 : BitVec 32 := Scalar.addi c0_i32_1370 v1475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1371 : BitVec 32 := 4#32
  let v1477 : BitVec 32 := Scalar.muli v5 c4_i32_1371
  let v1478 : BitVec 32 := Scalar.addi v1476 v1477
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1372 : BitVec 32 := 1#32
  let v1479 : BitVec 32 := Scalar.muli v41 c1_i32_1372
  let v1480 : BitVec 32 := Scalar.addi v1478 v1479
  v1480.toNat
def k0_dev57 (d0 : Dev nD) : Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1399 : BitVec 32 := 16#32
  let v1505 : BitVec 32 := Scalar.muli v54 c16_i32_1399
  let v1506 : BitVec 32 := Scalar.addi c0_i32_1400 v1505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1401 : BitVec 32 := 4#32
  let v1507 : BitVec 32 := Scalar.muli v5 c4_i32_1401
  let v1508 : BitVec 32 := Scalar.addi v1506 v1507
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1402 : BitVec 32 := 1#32
  let v1509 : BitVec 32 := Scalar.muli v57 c1_i32_1402
  let v1510 : BitVec 32 := Scalar.addi v1508 v1509
  v1510.toNat
def k0_dev58 (d0 : Dev nD) : Nat :=
  let c0_i32_1430 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1429 : BitVec 32 := 16#32
  let v1535 : BitVec 32 := Scalar.muli v38 c16_i32_1429
  let v1536 : BitVec 32 := Scalar.addi c0_i32_1430 v1535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1431 : BitVec 32 := 4#32
  let v1537 : BitVec 32 := Scalar.muli v5 c4_i32_1431
  let v1538 : BitVec 32 := Scalar.addi v1536 v1537
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1432 : BitVec 32 := 1#32
  let v1539 : BitVec 32 := Scalar.muli v41 c1_i32_1432
  let v1540 : BitVec 32 := Scalar.addi v1538 v1539
  v1540.toNat
def k0_dev59 (d0 : Dev nD) : Nat :=
  let c0_i32_1460 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1459 : BitVec 32 := 16#32
  let v1565 : BitVec 32 := Scalar.muli v54 c16_i32_1459
  let v1566 : BitVec 32 := Scalar.addi c0_i32_1460 v1565
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1461 : BitVec 32 := 4#32
  let v1567 : BitVec 32 := Scalar.muli v5 c4_i32_1461
  let v1568 : BitVec 32 := Scalar.addi v1566 v1567
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1462 : BitVec 32 := 1#32
  let v1569 : BitVec 32 := Scalar.muli v57 c1_i32_1462
  let v1570 : BitVec 32 := Scalar.addi v1568 v1569
  v1570.toNat
def k0_dev60 (d0 : Dev nD) : Nat :=
  let c0_i32_1505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1504 : BitVec 32 := 16#32
  let v1617 : BitVec 32 := Scalar.muli v38 c16_i32_1504
  let v1618 : BitVec 32 := Scalar.addi c0_i32_1505 v1617
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1506 : BitVec 32 := 4#32
  let v1619 : BitVec 32 := Scalar.muli v5 c4_i32_1506
  let v1620 : BitVec 32 := Scalar.addi v1618 v1619
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1507 : BitVec 32 := 1#32
  let v1621 : BitVec 32 := Scalar.muli v41 c1_i32_1507
  let v1622 : BitVec 32 := Scalar.addi v1620 v1621
  v1622.toNat
def k0_dev61 (d0 : Dev nD) : Nat :=
  let c0_i32_1553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1552 : BitVec 32 := 16#32
  let v1661 : BitVec 32 := Scalar.muli v38 c16_i32_1552
  let v1662 : BitVec 32 := Scalar.addi c0_i32_1553 v1661
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1554 : BitVec 32 := 4#32
  let v1663 : BitVec 32 := Scalar.muli v5 c4_i32_1554
  let v1664 : BitVec 32 := Scalar.addi v1662 v1663
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1555 : BitVec 32 := 1#32
  let v1665 : BitVec 32 := Scalar.muli v41 c1_i32_1555
  let v1666 : BitVec 32 := Scalar.addi v1664 v1665
  v1666.toNat
def k0_dev62 (d0 : Dev nD) : Nat :=
  let c0_i32_1601 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1600 : BitVec 32 := 16#32
  let v1705 : BitVec 32 := Scalar.muli v38 c16_i32_1600
  let v1706 : BitVec 32 := Scalar.addi c0_i32_1601 v1705
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1602 : BitVec 32 := 4#32
  let v1707 : BitVec 32 := Scalar.muli v5 c4_i32_1602
  let v1708 : BitVec 32 := Scalar.addi v1706 v1707
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1603 : BitVec 32 := 1#32
  let v1709 : BitVec 32 := Scalar.muli v41 c1_i32_1603
  let v1710 : BitVec 32 := Scalar.addi v1708 v1709
  v1710.toNat
def k0_dev63 (d0 : Dev nD) : Nat :=
  let c0_i32_1649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_6 : BitVec 32 := 1#32
  let v26 : BitVec 32 := Scalar.addi v25 c1_i32_6
  let c8_i32 : BitVec 32 := 8#32
  let c0_i32_7 : BitVec 32 := 0#32
  let v27 : BitVec 1 := Scalar.cmpi .eq c8_i32 c0_i32_7
  let c1_i32_8 : BitVec 32 := 1#32
  let v28 : BitVec 32 := Scalar.select v27 c1_i32_8 c8_i32
  let v29 : BitVec 32 := Scalar.remsi v26 v28
  let c0_i32_10 : BitVec 32 := 0#32
  let v31 : BitVec 1 := Scalar.cmpi .slt v29 c0_i32_10
  let c0_i32_11 : BitVec 32 := 0#32
  let v32 : BitVec 1 := Scalar.cmpi .slt v28 c0_i32_11
  let v33 : BitVec 1 := Scalar.xori v31 v32
  let c0_i32_9 : BitVec 32 := 0#32
  let v30 : BitVec 1 := Scalar.cmpi .ne v29 c0_i32_9
  let v34 : BitVec 1 := Scalar.andi v33 v30
  let v35 : BitVec 32 := Scalar.addi v29 v28
  let v36 : BitVec 32 := Scalar.select v34 v35 v29
  let c4_i32_12 : BitVec 32 := 4#32
  let v37 : BitVec 1 := Scalar.cmpi .sge v36 c4_i32_12
  let c1_i32_13 : BitVec 32 := 1#32
  let c0_i32_14 : BitVec 32 := 0#32
  let v38 : BitVec 32 := Scalar.select v37 c1_i32_13 c0_i32_14
  let c16_i32_1648 : BitVec 32 := 16#32
  let v1749 : BitVec 32 := Scalar.muli v38 c16_i32_1648
  let v1750 : BitVec 32 := Scalar.addi c0_i32_1649 v1749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1650 : BitVec 32 := 4#32
  let v1751 : BitVec 32 := Scalar.muli v5 c4_i32_1650
  let v1752 : BitVec 32 := Scalar.addi v1750 v1751
  let c4_i32_15 : BitVec 32 := 4#32
  let v39 : BitVec 1 := Scalar.cmpi .sge v36 c4_i32_15
  let c7_i32_16 : BitVec 32 := 7#32
  let v40 : BitVec 32 := Scalar.subi c7_i32_16 v36
  let v41 : BitVec 32 := Scalar.select v39 v40 v36
  let c1_i32_1651 : BitVec 32 := 1#32
  let v1753 : BitVec 32 := Scalar.muli v41 c1_i32_1651
  let v1754 : BitVec 32 := Scalar.addi v1752 v1753
  v1754.toNat
def k0_dev64 (d0 : Dev nD) : Nat :=
  let c0_i32_1714 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1713 : BitVec 32 := 16#32
  let v1807 : BitVec 32 := Scalar.muli v54 c16_i32_1713
  let v1808 : BitVec 32 := Scalar.addi c0_i32_1714 v1807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1715 : BitVec 32 := 4#32
  let v1809 : BitVec 32 := Scalar.muli v5 c4_i32_1715
  let v1810 : BitVec 32 := Scalar.addi v1808 v1809
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1716 : BitVec 32 := 1#32
  let v1811 : BitVec 32 := Scalar.muli v57 c1_i32_1716
  let v1812 : BitVec 32 := Scalar.addi v1810 v1811
  v1812.toNat
def k0_dev65 (d0 : Dev nD) : Nat :=
  let c0_i32_1762 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1761 : BitVec 32 := 16#32
  let v1851 : BitVec 32 := Scalar.muli v54 c16_i32_1761
  let v1852 : BitVec 32 := Scalar.addi c0_i32_1762 v1851
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1763 : BitVec 32 := 4#32
  let v1853 : BitVec 32 := Scalar.muli v5 c4_i32_1763
  let v1854 : BitVec 32 := Scalar.addi v1852 v1853
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1764 : BitVec 32 := 1#32
  let v1855 : BitVec 32 := Scalar.muli v57 c1_i32_1764
  let v1856 : BitVec 32 := Scalar.addi v1854 v1855
  v1856.toNat
def k0_dev66 (d0 : Dev nD) : Nat :=
  let c0_i32_1810 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1809 : BitVec 32 := 16#32
  let v1895 : BitVec 32 := Scalar.muli v54 c16_i32_1809
  let v1896 : BitVec 32 := Scalar.addi c0_i32_1810 v1895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1811 : BitVec 32 := 4#32
  let v1897 : BitVec 32 := Scalar.muli v5 c4_i32_1811
  let v1898 : BitVec 32 := Scalar.addi v1896 v1897
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1812 : BitVec 32 := 1#32
  let v1899 : BitVec 32 := Scalar.muli v57 c1_i32_1812
  let v1900 : BitVec 32 := Scalar.addi v1898 v1899
  v1900.toNat
def k0_dev67 (d0 : Dev nD) : Nat :=
  let c0_i32_1858 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_5 : BitVec 32 := 0#32
  let v23 : BitVec 1 := Scalar.cmpi .eq v2 c0_i32_5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v24 : BitVec 32 := Scalar.subi c7_i32 v8
  let v25 : BitVec 32 := Scalar.select v23 v8 v24
  let c1_i32_17 : BitVec 32 := 1#32
  let v42 : BitVec 32 := Scalar.subi v25 c1_i32_17
  let c8_i32_18 : BitVec 32 := 8#32
  let c0_i32_19 : BitVec 32 := 0#32
  let v43 : BitVec 1 := Scalar.cmpi .eq c8_i32_18 c0_i32_19
  let c1_i32_20 : BitVec 32 := 1#32
  let v44 : BitVec 32 := Scalar.select v43 c1_i32_20 c8_i32_18
  let v45 : BitVec 32 := Scalar.remsi v42 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  let c4_i32_24 : BitVec 32 := 4#32
  let v53 : BitVec 1 := Scalar.cmpi .sge v52 c4_i32_24
  let c1_i32_25 : BitVec 32 := 1#32
  let c0_i32_26 : BitVec 32 := 0#32
  let v54 : BitVec 32 := Scalar.select v53 c1_i32_25 c0_i32_26
  let c16_i32_1857 : BitVec 32 := 16#32
  let v1939 : BitVec 32 := Scalar.muli v54 c16_i32_1857
  let v1940 : BitVec 32 := Scalar.addi c0_i32_1858 v1939
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1859 : BitVec 32 := 4#32
  let v1941 : BitVec 32 := Scalar.muli v5 c4_i32_1859
  let v1942 : BitVec 32 := Scalar.addi v1940 v1941
  let c4_i32_27 : BitVec 32 := 4#32
  let v55 : BitVec 1 := Scalar.cmpi .sge v52 c4_i32_27
  let c7_i32_28 : BitVec 32 := 7#32
  let v56 : BitVec 32 := Scalar.subi c7_i32_28 v52
  let v57 : BitVec 32 := Scalar.select v55 v56 v52
  let c1_i32_1860 : BitVec 32 := 1#32
  let v1943 : BitVec 32 := Scalar.muli v57 c1_i32_1860
  let v1944 : BitVec 32 := Scalar.addi v1942 v1943
  v1944.toNat
abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Ring.lean ====
/-
# The mesh and the traffic, as plain arithmetic

A device sits at `(ring, row)`: its place `ring` in the ring of eight formed by the `x` and `z` axes, and its place
`row` on the `y` axis. Stage 8 carries a device's own part of its block to the row the permutation sends it to;
stages 0–3 pass parts one step up the ring, stages 4–7 one step down. Every stage moves eight chunks, except that
the far part comes half by stage 3 (chunks 0–3) and half by stage 7 (chunks 4–7).
-/
module

public import proofs.«01_k».proof.Proof.Gen.KernelIdeal
public import proofs.«01_k».proof.Proof.Gen.KernelIdeal.Skeleton

@[expose] public section

noncomputable section

namespace Cert.MoveProof

open Cert.KernelIdeal Cert.KernelIdeal.Gen
open Idealize.ShloMosaic Idealize.ShloMosaic.TcCoe

/-! ## Places on the mesh -/

def ring (c : Dev nD) : Fin 8 := if c.val / 16 = 0 then ⟨c.val % 4, by omega⟩ else ⟨7 - c.val % 4, by omega⟩
def row (c : Dev nD) : Fin 4 := ⟨c.val / 4 % 4, by omega⟩
/-- The device at a ring place and a row. -/
def dev (r : Fin 8) (y : Fin 4) : Dev nD :=
  if h : r.val < 4 then ⟨4 * y.val + r.val, by have := y.isLt; show _ < 32; omega⟩
  else ⟨16 + 4 * y.val + (7 - r.val), by have := y.isLt; show _ < 32; omega⟩

theorem dev_at : ∀ c : Dev nD, dev (ring c) (row c) = c := by decide +kernel
theorem ring_dev : ∀ (r : Fin 8) (y : Fin 4), ring (dev r y) = r := by decide +kernel
theorem row_dev : ∀ (r : Fin 8) (y : Fin 4), row (dev r y) = y := by decide +kernel

/-- One step up the ring, one step down. -/
def up (c : Dev nD) : Dev nD := dev (ring c + 1) (row c)
def down (c : Dev nD) : Dev nD := dev (ring c - 1) (row c)

theorem down_up : ∀ c : Dev nD, down (up c) = c := by decide +kernel
theorem up_down : ∀ c : Dev nD, up (down c) = c := by decide +kernel
theorem ring_up (c : Dev nD) : ring (up c) = ring c + 1 := ring_dev _ _
theorem ring_down (c : Dev nD) : ring (down c) = ring c - 1 := ring_dev _ _
theorem row_up (c : Dev nD) : row (up c) = row c := row_dev _ _
theorem row_down (c : Dev nD) : row (down c) = row c := row_dev _ _

/-! ## The transfers -/

/-- A transfer: its stage, its chunk. -/
abbrev E : Type := Fin 9 × Fin 8
/-- A piece a device may hold: of stage 8 its own block of `x`; of another stage what that stage sends on; of stage 9
    the part that is sent no further. -/
abbrev P : Type := Fin 10 × Fin 8

/-- The transfers that take place. -/
def used (e : E) : Bool := if e.1 = 3 then decide (e.2.val < 4) else if e.1 = 7 then decide (4 ≤ e.2.val) else true

/-- How far from a device's own part the part a stage sends lies. -/
def shift : Fin 10 → Fin 8 := ![0, 7, 6, 5, 0, 1, 2, 3, 0, 4]
/-- The part of the block a piece belongs to. -/
def part (t : Fin 10) (c : Dev nD) : Fin 8 := ring c + shift t
/-- The stage a part received by stage `t` is sent on by. -/
def next : Fin 9 → Fin 10 := ![1, 2, 3, 9, 5, 6, 7, 9, 0]

section Perm
variable (σ : Equiv.Perm (Fin 4))

/-- Where a stage sends. -/
def tgt (t : Fin 9) (c : Dev nD) : Dev nD :=
  if t = 8 then dev (ring c) (σ (row c)) else if t.val < 4 then up c else down c
/-- Where a stage receives from. -/
def snd (t : Fin 9) (c : Dev nD) : Dev nD :=
  if t = 8 then dev (ring c) (σ.symm (row c)) else if t.val < 4 then down c else up c

theorem snd_tgt (t : Fin 9) (c : Dev nD) : snd σ t (tgt σ t c) = c := by
  unfold snd tgt
  split
  · rw [ring_dev, row_dev, Equiv.symm_apply_apply, dev_at]
  · split
    · exact down_up c
    · exact up_down c
theorem tgt_snd (t : Fin 9) (c : Dev nD) : tgt σ t (snd σ t c) = c := by
  unfold snd tgt
  split
  · rw [ring_dev, row_dev, Equiv.apply_symm_apply, dev_at]
  · split
    · exact up_down c
    · exact down_up c
def moves (t : Fin 9) : Dev nD ≃ Dev nD := ⟨tgt σ t, snd σ t, snd_tgt σ t, tgt_snd σ t⟩

theorem ring_tgt (t : Fin 9) (c : Dev nD) : ring (tgt σ t c) = if t = 8 then ring c else if t.val < 4 then ring c + 1 else ring c - 1 := by
  unfold tgt
  split
  · rw [ring_dev]
  · split
    · exact ring_up c
    · exact ring_down c
theorem row_tgt (t : Fin 9) (c : Dev nD) : row (tgt σ t c) = if t = 8 then σ (row c) else row c := by
  unfold tgt
  split
  · rw [row_dev]
  · split
    · exact row_up c
    · exact row_down c
theorem part_arith : ∀ (t : Fin 9) (r : Fin 8),
    (if t = 8 then r else if t.val < 4 then r + 1 else r - 1) + shift (next t) = r + shift t.castSucc := by decide +kernel
/-- A part is, where it arrives, the part of the piece it becomes. -/
theorem part_next (t : Fin 9) (c : Dev nD) : part (next t) (tgt σ t c) = part t.castSucc c := by
  unfold part; rw [ring_tgt]; exact part_arith t (ring c)
end Perm

/-! ## The semaphores -/

/-- The semaphore of a transfer: where it is sent (`false`), where it arrives (`true`). -/
def semOf (b : Bool) (e : E) : DmaSem sig :=
  match b with
  | false => ⟨2 + ((e.1.val + 1) % 9) * 8 + e.2.val, by have := e.2.isLt; show _ < 146; omega⟩
  | true => ⟨74 + e.1.val * 8 + e.2.val, by have := e.2.isLt; have := e.1.isLt; show _ < 146; omega⟩
/-- The transfer a semaphore counts. -/
def xferOf (q : DmaSem sig) : Bool × E :=
  if q.val < 74 then (false, ⟨⟨((q.val - 2) / 8 + 8) % 9, by omega⟩, ⟨(q.val - 2) % 8, by omega⟩⟩)
  else (true, ⟨⟨(q.val - 74) / 8 % 9, by omega⟩, ⟨(q.val - 74) % 8, by omega⟩⟩)

theorem xferOf_semOf : ∀ (b : Bool) (e : E), xferOf (semOf b e) = (b, e) := by decide +kernel
theorem semOf_ge : ∀ (b : Bool) (e : E), 2 ≤ (semOf b e).val := by decide +kernel
theorem semOf_inj {b b' : Bool} {e e' : E} (h : semOf b e = semOf b' e') : b = b' ∧ e = e' := by
  have := congrArg xferOf h; rw [xferOf_semOf, xferOf_semOf] at this; exact ⟨congrArg Prod.fst this, congrArg Prod.snd this⟩

/-! ## The program's addresses -/

def blkOff (p k : Fin 8) : Fin 3 → Nat := ![0, 256 * p.val + 32 * k.val, 0]

theorem off2_eq : ∀ c : Dev nD, k0_off2 c = blkOff (part 8 c) 0 := by decide +kernel
theorem off3_eq : ∀ (c : Dev nD) (k : Fin 8), k0_off3 c (BitVec.ofNat 32 (32 * k.val)) = blkOff (part 8 c) k := by decide +kernel
theorem off4_eq : ∀ (c : Dev nD) (s : Fin 3) (k : Fin 8),
    k0_off4 c (BitVec.ofNat 32 (1 + s.val)) (BitVec.ofNat 32 (32 * k.val)) = blkOff (part ⟨1 + s.val, by omega⟩ c) k := by decide +kernel
theorem off5_eq : ∀ (c : Dev nD) (s : Fin 3) (k : Fin 8),
    k0_off5 c (BitVec.ofNat 32 (1 + s.val)) (BitVec.ofNat 32 (32 * k.val)) = blkOff (part ⟨5 + s.val, by omega⟩ c) k := by decide +kernel
theorem off5_far : ∀ (c : Dev nD) (k : Fin 8), k0_off5 c 4#32 (BitVec.ofNat 32 (32 * k.val)) = blkOff (part 9 c) k := by decide +kernel

/-- The word of a row. -/
def word (y : Fin 4) : BitVec 32 := BitVec.ofNat 32 y.val

theorem dev4_eq : ∀ (c : Dev nD) (y : Fin 4), k0_dev4 c (word y) = (dev (ring c) y).val := by decide +kernel
theorem dev1_at : ∀ (a b d e y : Fin 4), [a, b, d, e].Nodup → ∀ c : Dev nD, (![a, b, d, e] : Fin 4 → Fin 4) y = row c →
    k0_dev1 c (word a) (word b) (word d) (word e) = (dev (ring c) y).val := by decide +kernel
theorem dev1_eq (σ : Equiv.Perm (Fin 4)) (c : Dev nD) :
    k0_dev1 c (word (σ 0)) (word (σ 1)) (word (σ 2)) (word (σ 3)) = (snd σ 8 c).val :=
  dev1_at _ _ _ _ (σ.symm (row c))
    (by simp [σ.injective.eq_iff]) c
    (by rw [← σ.apply_symm_apply (row c), σ.symm_apply_apply]; generalize σ.symm (row c) = y; fin_cases y <;> rfl)
theorem chk1_all : ∀ (a b d e : Fin 4), [a, b, d, e].Nodup → ∀ c : Dev nD, k0_chk1 c (word a) (word b) (word d) (word e) := by
  intro a b d e h c
  unfold k0_chk1
  obtain ⟨y, hy⟩ : ∃ y, (![a, b, d, e] : Fin 4 → Fin 4) y = row c := by
    revert h; generalize row c = z; revert a b d e z; decide +kernel
  rw [dev1_at a b d e y h c hy]; exact (dev (ring c) y).isLt
theorem chk2_all (c : Dev nD) (y : Fin 4) : k0_chk2 c (word y) := by
  have h := dev4_eq c y
  have h' : k0_dev4 c (word y) < nD := by rw [h]; exact (dev (ring c) y).isLt
  exact ⟨h', h', h', h', h', h', h', h'⟩
theorem dev2_eq : ∀ c : Dev nD, k0_dev2 c = (down c).val := by decide +kernel
theorem dev3_eq : ∀ c : Dev nD, k0_dev3 c = (up c).val := by decide +kernel
theorem dev12_eq : ∀ c : Dev nD, k0_dev12 c = (up c).val := by decide +kernel
theorem dev13_eq : ∀ c : Dev nD, k0_dev13 c = (down c).val := by decide +kernel

end Cert.MoveProof

end
-- ==== Proof.Script.lean ====
/-
# The order of a device's actions, and what it rests on

Every device runs the same list: send a chunk, wait for one to arrive, wait for one of its own to have left. What the
proof needs of the order is read off the list once: a chunk is sent on only after it came; a device waits for its own
sends only when none remains; and whenever it waits for an arrival, what it still owes lies at a higher level.
-/
module

public import proofs.«01_k».proof.Proof.Ring

@[expose] public section

noncomputable section

namespace Cert.MoveProof

open Cert.KernelIdeal Cert.KernelIdeal.Gen
open Idealize.ShloMosaic Idealize.ShloMosaic.TcCoe

inductive Op where
  | send (e : E)
  | recv (e : E)
  | done (e : E)
  deriving DecidableEq

/-- A device's actions in order. -/
def script : List Op := [
  .send (8, 0), .send (8, 1), .send (8, 2), .send (8, 3), .send (8, 4), .send (8, 5), .send (8, 6), .send (8, 7),
  .recv (8, 0), .send (0, 0), .send (4, 0), .recv (8, 1), .send (0, 1), .send (4, 1), .recv (8, 2), .send (0, 2),
  .send (4, 2), .recv (8, 3), .send (0, 3), .send (4, 3), .recv (8, 4), .send (0, 4), .send (4, 4), .recv (8, 5),
  .send (0, 5), .send (4, 5), .recv (8, 6), .send (0, 6), .send (4, 6), .recv (8, 7), .send (0, 7), .send (4, 7),
  .recv (0, 0), .send (1, 0), .recv (4, 0), .send (5, 0), .recv (0, 1), .send (1, 1), .recv (4, 1), .send (5, 1),
  .recv (0, 2), .send (1, 2), .recv (4, 2), .send (5, 2), .recv (0, 3), .send (1, 3), .recv (4, 3), .send (5, 3),
  .recv (0, 4), .send (1, 4), .recv (4, 4), .send (5, 4), .recv (0, 5), .send (1, 5), .recv (4, 5), .send (5, 5),
  .recv (0, 6), .send (1, 6), .recv (4, 6), .send (5, 6), .recv (0, 7), .send (1, 7), .recv (4, 7), .send (5, 7),
  .recv (1, 0), .send (2, 0), .recv (5, 0), .send (6, 0), .recv (1, 1), .send (2, 1), .recv (5, 1), .send (6, 1),
  .recv (1, 2), .send (2, 2), .recv (5, 2), .send (6, 2), .recv (1, 3), .send (2, 3), .recv (5, 3), .send (6, 3),
  .recv (1, 4), .send (2, 4), .recv (5, 4), .send (6, 4), .recv (1, 5), .send (2, 5), .recv (5, 5), .send (6, 5),
  .recv (1, 6), .send (2, 6), .recv (5, 6), .send (6, 6), .recv (1, 7), .send (2, 7), .recv (5, 7), .send (6, 7),
  .recv (2, 0), .send (3, 0), .recv (6, 0), .recv (2, 1), .send (3, 1), .recv (6, 1), .recv (2, 2), .send (3, 2),
  .recv (6, 2), .recv (2, 3), .send (3, 3), .recv (6, 3), .recv (2, 4), .recv (6, 4), .send (7, 4), .recv (2, 5),
  .recv (6, 5), .send (7, 5), .recv (2, 6), .recv (6, 6), .send (7, 6), .recv (2, 7), .recv (6, 7), .send (7, 7),
  .recv (3, 0), .recv (3, 1), .recv (3, 2), .recv (3, 3), .recv (7, 4), .recv (7, 5), .recv (7, 6), .recv (7, 7),
  .done (8, 0), .done (8, 1), .done (8, 2), .done (8, 3), .done (8, 4), .done (8, 5), .done (8, 6), .done (8, 7),
  .done (0, 0), .done (4, 0), .done (0, 1), .done (4, 1), .done (0, 2), .done (4, 2), .done (0, 3), .done (4, 3),
  .done (0, 4), .done (4, 4), .done (0, 5), .done (4, 5), .done (0, 6), .done (4, 6), .done (0, 7), .done (4, 7),
  .done (1, 0), .done (5, 0), .done (1, 1), .done (5, 1), .done (1, 2), .done (5, 2), .done (1, 3), .done (5, 3),
  .done (1, 4), .done (5, 4), .done (1, 5), .done (5, 5), .done (1, 6), .done (5, 6), .done (1, 7), .done (5, 7),
  .done (2, 0), .done (6, 0), .done (2, 1), .done (6, 1), .done (2, 2), .done (6, 2), .done (2, 3), .done (6, 3),
  .done (2, 4), .done (6, 4), .done (2, 5), .done (6, 5), .done (2, 6), .done (6, 6), .done (2, 7), .done (6, 7),
  .done (3, 0), .done (3, 1), .done (3, 2), .done (3, 3), .done (7, 4), .done (7, 5), .done (7, 6), .done (7, 7)]

/-- How late a stage's arrivals come. -/
def level : Fin 9 → ℕ := ![3, 4, 5, 6, 3, 4, 5, 6, 2]

/-- The arrival that makes a piece available: none for the pieces of the device's own block. -/
def comes (p : P) : Option E :=
  ![some (8, p.2), some (0, p.2), some (1, p.2), some (2, p.2), some (8, p.2), some (4, p.2), some (5, p.2), some (6, p.2), none,
    if p.2.val < 4 then some (3, p.2) else some (7, p.2)] p.1

/-- The pieces an arrival makes available. -/
def gets (e : E) : Finset P := if e.1 = 8 then {(0, e.2), (4, e.2)} else {(next e.1, e.2)}

/-- The piece a transfer sends. -/
def pieceOf (e : E) : P := (e.1.castSucc, e.2)

/-- A piece has come, the list `l` of actions remaining. -/
def here (l : List Op) (p : P) : Bool :=
  match comes p with
  | none => true
  | some e => decide (Op.recv e ∉ l)
/-- A piece is on its way out: its send is behind, the wait for it ahead. -/
def away (l : List Op) (p : P) : Bool :=
  if h : p.1.val < 9 then used (⟨p.1.val, h⟩, p.2) && decide (Op.send (⟨p.1.val, h⟩, p.2) ∉ l) && decide (Op.done (⟨p.1.val, h⟩, p.2) ∈ l) else false

/-- What the next action, of the list it heads, rests on. -/
def fine (o : Op) (l : List Op) : Bool :=
  match o with
  | .send e => used e && decide (Op.send e ∉ l) && here (o :: l) (pieceOf e) && decide (Op.done e ∈ l)
  | .recv e => used e && decide (Op.recv e ∉ l) && decide (∀ e' : E, Op.send e' ∈ l → level e.1 < level e'.1)
      && decide (∀ p ∈ gets e, away l p = false)
  | .done e => used e && decide (Op.done e ∉ l) && decide (∀ e' : E, Op.send e' ∉ l) && here l (pieceOf e)

def allFine : List Op → Bool
  | [] => true
  | o :: l => fine o l && allFine l

theorem script_fine : allFine script = true := by decide +kernel

theorem gets_iff : ∀ (e : E) (p : P), used e = true → (p ∈ gets e ↔ comes p = some e) := by decide +kernel

end Cert.MoveProof

end
-- ==== Proof.Blocks.lean ====
/-
# The chunks, and what every one of them holds

The buffer of a device's result is cut into 8 parts of 8 chunks of 32 rows, and so is its block of `x`. A device's
result is, part by part, the block of `x` of the row whose word names this device's row: part `p` of it is part `p` of
the block held at ring place `p` of that row. A chunk that travels holds that value wherever it is.
-/
module

public import proofs.«01_k».proof.Proof.Script
public import Idealize.ShloMosaic.Lib.Pipeline.Launch
public import Idealize.ShloMosaic.Lib.Pipeline.Kit
public import Idealize.ShloMosaic.Lib.Tactic

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The chunks -/

theorem blkOff_inb (p k : Fin 8) : ∀ a, blkOff p k a + S1x32x1024.size a ≤ S1x2048x1024.size a := by
  revert p k; decide +kernel

abbrev xM : Memref sig .tc .hbm S1x2048x1024 .f32 := Memref.whole main_arg0
abbrev oM : Memref sig .tc .vmem S1x2048x1024 .f32 := Memref.whole cc0_stg1_0

abbrev rectAt (off : Fin 3 → Nat) (h : ∀ a, off a + S1x32x1024.size a ≤ S1x2048x1024.size a) : Rect S1x2048x1024 :=
  Rect.unit (s := S1x2048x1024) off S1x32x1024.size h
/-- Chunk `k` of part `p` of the block of `x`, and of the result. -/
abbrev xB (p k : Fin 8) : Memref sig .tc .hbm S1x32x1024 .f32 := xM.slice (rectAt (blkOff p k) (blkOff_inb p k)) (fun _ => rfl)
abbrev oB (p k : Fin 8) : Memref sig .tc .vmem S1x32x1024 .f32 := oM.slice (rectAt (blkOff p k) (blkOff_inb p k)) (fun _ => rfl)

/-- The chunk's places in its buffer. -/
def chunk (pk : Fin 8 × Fin 8) : Finset S1x2048x1024.Idx := (rectAt (blkOff pk.1 pk.2) (blkOff_inb pk.1 pk.2)).set

theorem xB_set (p k : Fin 8) : (xB p k).view.set = chunk (p, k) := View.set_slice_whole _ _
theorem oB_set (p k : Fin 8) : (oB p k).view.set = chunk (p, k) := View.set_slice_whole _ _

theorem mem_chunk (pk : Fin 8 × Fin 8) (i : S1x2048x1024.Idx) : i ∈ chunk pk ↔ (i 1).val / 32 = 8 * pk.1.val + pk.2.val := by
  unfold chunk
  rw [Rect.mem_set_unit]
  have h0 : (i 0).val < 1 := (i 0).isLt
  have h2 : (i 2).val < 1024 := (i 2).isLt
  constructor
  · intro h
    have h1 := h 1
    simp only [blkOff] at h1
    change 256 * pk.1.val + 32 * pk.2.val ≤ (i 1).val ∧ (i 1).val < 256 * pk.1.val + 32 * pk.2.val + 32 at h1
    omega
  · intro h a
    have hp := pk.2.isLt
    fin_cases a
    · exact ⟨Nat.zero_le _, by show (i 0).val < 0 + 1; omega⟩
    · show 256 * pk.1.val + 32 * pk.2.val ≤ (i 1).val ∧ (i 1).val < 256 * pk.1.val + 32 * pk.2.val + 32; omega
    · exact ⟨Nat.zero_le _, by show (i 2).val < 0 + 1024; omega⟩

theorem chunk_disjoint {a b : Fin 8 × Fin 8} (h : a ≠ b) : Disjoint (chunk a) (chunk b) := by
  rw [Finset.disjoint_left]
  intro i ha hb
  rw [mem_chunk] at ha hb
  have h1 := a.2.isLt; have h2 := b.2.isLt
  exact h (Prod.ext (Fin.ext (by omega)) (Fin.ext (by omega)))

/-- A family of chunks that names each once is the whole buffer. -/
theorem chunks_cover {J : Type} [DecidableEq J] (S : Finset J) (φ : J → Fin 8 × Fin 8) (h : ∀ pk, ∃ j ∈ S, φ j = pk) :
    S.biUnion (fun j => chunk (φ j)) = Finset.univ := by
  ext i
  simp only [Finset.mem_biUnion, Finset.mem_univ, iff_true]
  have hi : (i 1).val < 2048 := (i 1).isLt
  obtain ⟨j, hj, hpk⟩ := h (⟨(i 1).val / 256, by omega⟩, ⟨(i 1).val / 32 % 8, by omega⟩)
  exact ⟨j, hj, by rw [mem_chunk, hpk]; show _ = 8 * ((i 1).val / 256) + (i 1).val / 32 % 8; omega⟩

/-! ## What they hold -/

section Contents
variable {F : FTy → Type} [FloatOps F]
variable (σ : Equiv.Perm (Fin 4)) (m : (ℓ : Loc nD τ sig) → Buf (Elt F) ℓ)

/-- A device's block of `x` as launched. -/
def xF (c : Dev nD) : S1x2048x1024.Idx → Elt F .f32 := m ((c : Thread nD τ).loc main_arg0)
/-- A device's result. -/
def outF (c : Dev nD) : S1x2048x1024.Idx → Elt F .f32 :=
  fun i => xF m (dev ⟨(i 1).val / 256, by have : (i 1).val < 2048 := (i 1).isLt; omega⟩ (σ.symm (row c))) i

theorem outF_row {c d : Dev nD} (h : row c = row d) : outF σ m c = outF σ m d := by unfold outF; rw [h]
/-- On a device's own part, what the receiver's result holds is the device's block of `x`. -/
theorem outF_own (c : Dev nD) (k : Fin 8) (i : S1x2048x1024.Idx) (hi : i ∈ chunk (ring c, k)) : outF σ m (tgt σ 8 c) i = xF m c i := by
  unfold outF
  rw [mem_chunk] at hi
  have hk := k.isLt
  rw [row_tgt, if_pos rfl, Equiv.symm_apply_apply, show (⟨(i 1).val / 256, _⟩ : Fin 8) = ring c from Fin.ext (by
    show (i 1).val / 256 = (ring c).val
    have : (i 1).val / 32 = 8 * (ring c).val + k.val := hi
    omega), dev_at]

/-- A chunk copied onto the same chunk of another buffer: there, the values copied. -/
theorem land (p k : Fin 8) (fd : S1x2048x1024.Idx → Elt F .f32) (fs : S1x2048x1024.Idx → Elt F .f32) :
    ∀ i ∈ chunk (p, k), (oB p k).view.write (Elt F) fd ((xB p k).view.read (Elt F) fs) Finset.univ i = fs i := by
  intro i hi
  rw [← oB_set] at hi
  obtain ⟨x, -, rfl⟩ := Finset.mem_map.mp hi
  rw [View.write_emb_of_mem _ _ (Finset.mem_univ _)]
  rfl
theorem land' (p k : Fin 8) (fd : S1x2048x1024.Idx → Elt F .f32) (fs : S1x2048x1024.Idx → Elt F .f32) :
    ∀ i ∈ chunk (p, k), (oB p k).view.write (Elt F) fd ((oB p k).view.read (Elt F) fs) Finset.univ i = fs i := by
  intro i hi
  rw [← oB_set] at hi
  obtain ⟨x, -, rfl⟩ := Finset.mem_map.mp hi
  rw [View.write_emb_of_mem _ _ (Finset.mem_univ _)]
  rfl
end Contents

end Cert.MoveProof

end
-- ==== Proof.Sched.lean ====
/-
# What every signal and every transfer hands over

A device's barrier cell takes three units: from the device it sends its own part to, from its neighbour up the ring and
from its neighbour down the ring, each with the chunks of ITS result this device will write. A transfer's receive cell
takes the chunk as it arrived, its send cell the chunk sent. Barriers are waited for first, then arrivals by how late
they come.
-/
module

public import proofs.«01_k».proof.Proof.Blocks
public import proofs.«01_k».proof.Proof.Gen.KernelIdeal.Launch

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The cells -/

abbrev barS : Sem sig := (SemArray.scalar (sig.barrier 0 rfl) : Sems sig S_).sem
abbrev barC (c : Dev nD) : GSem nD τ sig := ((c : Thread nD τ), .reg barS)
/-- A transfer's cell on a device: where it leaves (`false`), where it arrives (`true`). -/
abbrev xC (b : Bool) (c : Dev nD) (e : E) : GSem nD τ sig := ((c : Thread nD τ), .dma (semOf b e))

/-- The cells of a device: its barrier's, its transfers'. -/
abbrev KI : Type := Option (Bool × E)
def kcell (ck : Dev nD × KI) : GSem nD τ sig := match ck.2 with
  | none => barC ck.1
  | some be => xC be.1 ck.1 be.2

abbrev N : ℕ := (oB 0 0).view.dmaCredit
theorem N_pos : 0 < N := View.dmaCredit_pos _ (by decide)
theorem amount_eq (p k : Fin 8) (q : DmaSem sig) : (oB p k).view.amount (.dma q) = N := rfl

/-! ## What is held of the buffers -/

/-- Chunk `pk` of a device's result, of its block of `x`. -/
def oPts (c : Dev nD) (pk : Fin 8 × Fin 8) (q : PosShare TreeShare) (f : S1x2048x1024.Idx → Elt F .f32) : sProp 𝕄 :=
  ((c : Thread nD τ).loc cc0_stg1_0) ↦[chunk pk]{q} f
def xPts (c : Dev nD) (pk : Fin 8 × Fin 8) (f : S1x2048x1024.Idx → Elt F .f32) : sProp 𝕄 :=
  ((c : Thread nD τ).loc main_arg0) ↦[chunk pk]{fullShare} f

instance oPts_storable (c : Dev nD) (pk) (q) (f) : BI.Storable (upEmb : UEmb _ 𝕄) (oPts (F := F) c pk q f) := by unfold oPts; infer_instance
instance xPts_storable (c : Dev nD) (pk) (f) : BI.Storable (upEmb : UEmb _ 𝕄) (xPts (F := F) c pk f) := by unfold xPts; infer_instance

/-- The share of a piece: the part received from the own row's sender is sent both ways at once. -/
def shareOf : Fin 10 → PosShare TreeShare := ![fullShare.left, fullShare, fullShare, fullShare, fullShare.right, fullShare, fullShare, fullShare, fullShare, fullShare]

section Sched
variable (σ : Equiv.Perm (Fin 4)) (m : (ℓ : Loc nD τ sig) → Buf (Elt F) ℓ)

/-- A piece of device `c`, as it is held when it has come. -/
def pieceC (c : Dev nD) (p : P) : sProp 𝕄 :=
  if p.1 = 8 then xPts c (part 8 c, p.2) (xF m c) else oPts c (part p.1 c, p.2) (shareOf p.1) (outF σ m c)
instance pieceC_storable (c : Dev nD) (p) : BI.Storable (upEmb : UEmb _ 𝕄) (pieceC (F := F) σ m c p) := by
  unfold pieceC; split <;> infer_instance

/-- A transfer's chunk, arrived. -/
def arrived (c : Dev nD) (e : E) : sProp 𝕄 := oPts c (part (next e.1) c, e.2) fullShare (outF σ m c)
/-- The chunk a transfer of device `c` will write, where it lies. -/
def target (c : Dev nD) (e : E) : sProp 𝕄 := iprop(∃ f, oPts (F := F) (tgt σ e.1 c) (part e.1.castSucc c, e.2) fullShare f)

/-- Who prepares a transfer's target: the receiver of the own part, the neighbour up, the neighbour down. -/
def way (t : Fin 9) : Fin 3 := if t = 8 then 0 else if t.val < 4 then 1 else 2
def usedBy (d : Fin 3) : Finset E := Finset.univ.filter fun e => used e = true ∧ way e.1 = d
def barPay (c : Dev nD) (d : Fin 3) : sProp 𝕄 := bigSep (usedBy d) (target (F := F) σ c)

def dutiesAt : SemLoc sig → Finset (Fin 3)
  | .reg s => Finset.univ
  | .dma q => if 2 ≤ q.val ∧ used (xferOf q).2 = true then {0} else ∅
def amountAt : SemLoc sig → ℕ
  | .reg _ => 1
  | .dma _ => N
def payAt (c : Dev nD) (d : Fin 3) : SemLoc sig → sProp 𝕄
  | .reg _ => barPay σ c d
  | .dma q => if (xferOf q).1 then arrived σ m c (xferOf q).2 else pieceC σ m c (pieceOf (xferOf q).2)

def Rd : Rounds.Schedule (GSem nD τ sig) (Fin 3) 𝕄 where
  duties g r := if r = 0 ∧ g.1.2 = .tc then dutiesAt g.2 else ∅
  unitless _ := False
  amount g _ _ := amountAt g.2
  payload g _ d := payAt σ m g.1.1 d g.2
  amount_pos g _ _ _ := by
    unfold amountAt; split
    · exact Nat.one_pos
    · exact N_pos

instance Rd_payload_storable (g : GSem nD τ sig) (r : ℕ) (d : Fin 3) : BI.Storable (upEmb : UEmb _ 𝕄) ((Rd (F := F) σ m).payload g r d) := by
  show BI.Storable upEmb (payAt σ m g.1.1 d g.2)
  unfold payAt barPay arrived target
  (repeat' split) <;> infer_instance

theorem duties_eq (g : GSem nD τ sig) (r : ℕ) : (Rd (F := F) σ m).duties g r = if r = 0 ∧ g.1.2 = .tc then dutiesAt g.2 else ∅ := rfl
theorem duties_bar (c : Dev nD) : (Rd (F := F) σ m).duties (barC c) 0 = Finset.univ := by rw [duties_eq, if_pos ⟨rfl, rfl⟩]; rfl
theorem duties_xfer (b : Bool) (c : Dev nD) {e : E} (h : used e = true) : (Rd (F := F) σ m).duties (xC b c e) 0 = {0} := by
  rw [duties_eq, if_pos ⟨rfl, rfl⟩]
  exact if_pos ⟨semOf_ge b e, by rw [xferOf_semOf]; exact h⟩
theorem duties_unused (b : Bool) (c : Dev nD) {e : E} (h : ¬ used e = true) (r : ℕ) : (Rd (F := F) σ m).duties (xC b c e) r = ∅ := by
  rw [duties_eq]
  split
  · exact if_neg fun h' => h (by have := h'.2; rwa [xferOf_semOf] at this)
  · rfl
theorem duties_later (g : GSem nD τ sig) : ∀ r, 0 + 1 ≤ r → (Rd (F := F) σ m).duties g r = ∅ :=
  fun r hr => by rw [duties_eq, if_neg fun h => by omega]
theorem expect_bar (c : Dev nD) : (Rd (F := F) σ m).expect (barC c) 0 = 3 := by
  unfold Schedule.expect Schedule.amountOf
  rw [duties_bar]; rfl
theorem expect_xfer (b : Bool) (c : Dev nD) {e : E} (h : used e = true) : (Rd (F := F) σ m).expect (xC b c e) 0 = N := by
  unfold Schedule.expect Schedule.amountOf
  rw [duties_xfer σ m b c h, Finset.sum_singleton]; rfl
theorem payload_sent (c : Dev nD) (e : E) (r : ℕ) (d : Fin 3) : (Rd (F := F) σ m).payload (xC false c e) r d = pieceC σ m c (pieceOf e) := by
  show (if (xferOf (semOf false e)).1 = true then _ else _) = _
  rw [xferOf_semOf]; rfl
theorem payload_arrived (c : Dev nD) (e : E) (r : ℕ) (d : Fin 3) : (Rd (F := F) σ m).payload (xC true c e) r d = arrived σ m c e := by
  show (if (xferOf (semOf true e)).1 = true then _ else _) = _
  rw [xferOf_semOf]; rfl
theorem rest_bar (c : Dev nD) : bigSep ((Rd (F := F) σ m).duties (barC c) 0 \ ∅) (fun d => (Rd (F := F) σ m).payload (barC c) 0 d) = bigSep Finset.univ (barPay (F := F) σ c) := by
  rw [Finset.sdiff_empty, duties_bar]; rfl
theorem rest_xfer (b : Bool) (c : Dev nD) {e : E} (h : used e = true) :
    bigSep ((Rd (F := F) σ m).duties (xC b c e) 0 \ ∅) (fun d => (Rd (F := F) σ m).payload (xC b c e) 0 d) = (Rd (F := F) σ m).payload (xC b c e) 0 0 := by
  rw [Finset.sdiff_empty, duties_xfer σ m b c h, bigSep_singleton]

end Sched

/-! ## What a device owes, and the levels -/

section Owed
variable (σ : Equiv.Perm (Fin 4))

/-- The actions of the list still to come owe their receivers a chunk each. -/
def owedE (c : Dev nD) (l : List Op) : CellTallies nD τ sig Unit :=
  ∑ e ∈ Finset.univ.filter (fun e => used e = true ∧ Op.send e ∈ l), tallyAt (xC true (tgt σ e.1 c) e) () N
/-- The three units of the barriers, as they are paid. -/
def O₂ (c : Dev nD) : CellTallies nD τ sig Unit := owedE σ c script + tallyAt (barC (up c)) () 1
def O₁ (c : Dev nD) : CellTallies nD τ sig Unit := O₂ σ c + tallyAt (barC (down c)) () 1
def O₀ (c : Dev nD) : CellTallies nD τ sig Unit := O₁ σ c + tallyAt (barC (snd σ 8 c)) () 1

def L (g : GSem nD τ sig) : Finset Unit := if g.1.2 = .tc then {()} else ∅
def levelAt : SemLoc sig → ℕ
  | .reg _ => 1
  | .dma q => if 2 ≤ q.val ∧ (xferOf q).1 = true then level (xferOf q).2.1 else 0
def lv (g : GSem nD τ sig) (_ : Unit) : ℕ := levelAt g.2

theorem L_of_ne (g : GSem nD τ sig) (h : g.1.2 ≠ .tc) : L g = ∅ := if_neg h
theorem L_tc (c : Dev nD) (sm : SemLoc sig) : L ((c : Thread nD τ), sm) = {()} := if_pos rfl
theorem level_ge : ∀ t, 2 ≤ level t := by decide
theorem lv_arrive (c : Dev nD) (e : E) : lv (xC true c e) () = level e.1 := by
  show (if _ then level (xferOf (semOf true e)).2.1 else 0) = _
  rw [if_pos ⟨semOf_ge true e, by rw [xferOf_semOf]⟩, xferOf_semOf]

theorem owedE_pos {c : Dev nD} {l : List Op} {g : GSem nD τ sig} {u : Unit} (h : 0 < owedE σ c l g u) :
    ∃ e, Op.send e ∈ l ∧ g = xC true (tgt σ e.1 c) e := by
  unfold owedE at h
  rw [Finset.sum_apply, Finsupp.finset_sum_apply] at h
  obtain ⟨e, he, hp⟩ := Finset.exists_ne_zero_of_sum_ne_zero (Nat.pos_iff_ne_zero.mp h)
  rw [tallyAt_apply] at hp
  by_cases hg : g = xC true (tgt σ e.1 c) e ∧ u = ()
  · exact ⟨e, (Finset.mem_filter.mp he).2.2, hg.1⟩
  · rw [if_neg hg] at hp; exact absurd rfl hp
theorem O₀_pos {c : Dev nD} {g : GSem nD τ sig} {u : Unit} (h : 0 < O₀ σ c g u) :
    (∃ d e, g = xC true d e) ∨ ∃ d, g = barC d := by
  unfold O₀ O₁ O₂ at h
  rw [Pi.add_apply, Finsupp.add_apply, Pi.add_apply, Finsupp.add_apply, Pi.add_apply, Finsupp.add_apply, tallyAt_apply, tallyAt_apply, tallyAt_apply] at h
  by_contra hn; rw [not_or] at hn
  rw [if_neg (fun h' => hn.2 ⟨_, h'.1⟩), if_neg (fun h' => hn.2 ⟨_, h'.1⟩), if_neg (fun h' => hn.2 ⟨_, h'.1⟩)] at h
  simp only [Nat.add_zero] at h
  obtain ⟨e, -, he⟩ := owedE_pos σ h
  exact hn.1 ⟨_, e, he⟩

variable {F : FTy → Type} [FloatOps F]

/-- A wait at a cell below everything owed. -/
theorem mayWait_below (c : Dev nD) (sm : SemLoc sig) (O : CellTallies nD τ sig Unit) (n : ℕ) (hs : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_stage (c : Dev nD) (q : DmaSem sig) (hq : q.val < 2) (O : CellTallies nD τ sig Unit) (hO : O = O₀ σ c ∨ O = 0) :
    (levAts L lv : sProp 𝕄) ⊢ MayWait (c : Thread nD τ) (.dma q) () O := by
  rcases hO with rfl | rfl
  · refine mayWait_below c _ _ 0 (Nat.le_of_eq (if_neg fun h => by omega)) fun g u hg => ?_
    rcases O₀_pos σ hg with ⟨d, e, rfl⟩ | ⟨d, rfl⟩
    · exact ⟨rfl, by rw [lv_arrive]; have := level_ge e.1; omega⟩
    · exact ⟨rfl, Nat.one_pos⟩
  · rw [MayWait_zero]; iintro -; iempintro
theorem mayWait_bar (c : Dev nD) : (levAts L lv : sProp 𝕄) ⊢ MayWait (c : Thread nD τ) (.reg barS) () (owedE σ c script) :=
  mayWait_below c _ _ 1 (Nat.le_refl 1) fun g u hg => by
    obtain ⟨e, -, rfl⟩ := owedE_pos σ hg
    exact ⟨rfl, by rw [lv_arrive]; have := level_ge e.1; omega⟩
theorem mayWait_recv (c : Dev nD) (e : E) (l : List Op) (h : ∀ e' : E, Op.send e' ∈ l → level e.1 < level e'.1) :
    (levAts L lv : sProp 𝕄) ⊢ MayWait (c : Thread nD τ) (.dma (semOf true e)) () (owedE σ c l) :=
  mayWait_below c _ _ (level e.1) (Nat.le_of_eq (lv_arrive c e)) fun g u hg => by
    obtain ⟨e', he', rfl⟩ := owedE_pos σ hg
    exact ⟨rfl, by rw [lv_arrive]; exact h e' he'⟩

/-- The next send's summand. -/
theorem owedE_send (c : Dev nD) (e : E) (l : List Op) (hu : used e = true) (hl : Op.send e ∉ l) :
    owedE σ c (.send e :: l) = owedE σ c l + tallyAt (xC true (tgt σ e.1 c) e) () N := by
  unfold owedE
  rw [show Finset.univ.filter (fun e' : E => used e' = true ∧ Op.send e' ∈ Op.send e :: l)
      = insert e (Finset.univ.filter fun e' : E => used e' = true ∧ Op.send e' ∈ l) from by
    ext e'
    simp only [Finset.mem_filter, Finset.mem_univ, true_and, Finset.mem_insert, List.mem_cons, Op.send.injEq]
    constructor
    · rintro ⟨h1, rfl | h2⟩
      · exact .inl rfl
      · exact .inr ⟨h1, h2⟩
    · rintro (rfl | ⟨h1, h2⟩)
      · exact ⟨hu, .inl rfl⟩
      · exact ⟨h1, .inr h2⟩,
    Finset.sum_insert (fun h => hl (Finset.mem_filter.mp h).2.2), add_comm]
theorem owedE_skip (c : Dev nD) (o : Op) (l : List Op) (ho : ∀ e, o ≠ .send e) : owedE σ c (o :: l) = owedE σ c l := by
  unfold owedE
  congr 1
  ext e
  simp only [Finset.mem_filter, List.mem_cons, (ho e).symm, false_or]
theorem owedE_none (c : Dev nD) (l : List Op) (h : ∀ e, Op.send e ∉ l) : owedE σ c l = 0 := by
  unfold owedE
  rw [Finset.filter_eq_empty_iff.mpr fun e _ he => h e he.2, Finset.sum_empty]
end Owed

end Cert.MoveProof

end
-- ==== Proof.State.lean ====
/-
# A device between two of its actions

What a device holds is told by the list of the actions it still has to run: of every transfer the right to send and the
place to write, then the credit for its departure; of every arrival the credit, then the piece it brought; of every
piece, whether it is here. Each kind of action takes this to the rest of the list.
-/
module

public import proofs.«01_k».proof.Proof.Sched

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A conjunction over everything, some of its members taken out and given back changed. -/
theorem bigSep_swap {I : Type} [Fintype I] [DecidableEq I] (T : Finset I) {Φ Ψ : I → sProp 𝕄} (h : ∀ j, j ∉ T → Φ j = Ψ j) :
    bigSep Finset.univ Φ ⊢ iprop(bigSep T Φ ∗ (bigSep T Ψ -∗ bigSep Finset.univ Ψ)) := by
  rw [bigSep_sdiff_split (Finset.subset_univ T) (Φ := Φ), bigSep_sdiff_split (Finset.subset_univ T) (Φ := Ψ),
    bigSep_congr (s := Finset.univ \ T) (Φ := Φ) (Ψ := Ψ) fun j hj => h j (Finset.mem_sdiff.mp hj).2]
  show iprop(bigSep T Φ ∗ bigSep (Finset.univ \ T) Ψ) ⊢ iprop(bigSep T Φ ∗ (bigSep T Ψ -∗ bigSep T Ψ ∗ bigSep (Finset.univ \ T) Ψ))
  iintro ⟨H, Hr⟩
  isplitl [H]; · iexact H
  iintro H'
  isplitl [H'] <;> iassumption
theorem bigSep_swap1 {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  have := bigSep_swap {i} (Φ := Φ) (Ψ := Ψ) fun j hj => h j fun e => hj (Finset.mem_singleton.mpr e)
  rwa [bigSep_singleton, bigSep_singleton] at this

section State
variable (σ : Equiv.Perm (Fin 4)) (m : (ℓ : Loc nD τ sig) → Buf (Elt F) ℓ)

/-! ## What every device knows -/

/-- Every cell's record, that its first round is open, and the levels. -/
def records (K : Dev nD × KI → ℕ) : sProp 𝕄 :=
  iprop((bigSep Finset.univ fun ck : Dev nD × KI => cellInv ER (Rd σ m) (K ck) (kcell ck))
    ∗ (bigSep Finset.univ fun ck : Dev nD × KI => reached ER (kcell ck) 0) ∗ levAts L lv)
instance records_persistent (K : Dev nD × KI → ℕ) : BI.Persistent (records (F := F) σ m K) := by unfold records; infer_instance

variable (K : Dev nD × KI → ℕ)

theorem records_inv (ck : Dev nD × KI) : records σ m K ⊢ (cellInv ER (Rd σ m) (K ck) (kcell ck) : sProp 𝕄) := by
  unfold records
  iintro ⟨H, -, -⟩
  iapply (show (bigSep Finset.univ fun ck : Dev nD × KI => (cellInv ER (Rd σ m) (K ck) (kcell ck) : sProp 𝕄)) ⊢ cellInv ER (Rd σ m) (K ck) (kcell ck) from
    bigSep_elim (Finset.mem_univ ck)); iexact H
theorem records_reached (ck : Dev nD × KI) : records σ m K ⊢ (reached ER (kcell ck) 0 : sProp 𝕄) := by
  unfold records
  iintro ⟨-, H, -⟩
  iapply (show (bigSep Finset.univ fun ck : Dev nD × KI => (reached ER (kcell ck) 0 : sProp 𝕄)) ⊢ reached ER (kcell ck) 0 from
    bigSep_elim (Finset.mem_univ ck)); iexact H
theorem records_recv (c : Dev nD) (e : E) (l : List Op) (h : ∀ e' : E, Op.send e' ∈ l → level e.1 < level e'.1) :
    records σ m K ⊢ MayWait (c : Thread nD τ) (.dma (semOf true e)) () (owedE σ c l) := by
  unfold records
  iintro ⟨-, -, H⟩
  iapply (mayWait_recv (F := F) σ c e l h)
  iexact H
theorem records_bar (c : Dev nD) : records σ m K ⊢ MayWait (c : Thread nD τ) (.reg barS) () (owedE σ c script) := by
  unfold records
  iintro ⟨-, -, H⟩
  iapply (mayWait_bar (F := F) σ c)
  iexact H

/-! ## What a device holds -/

def sendPart (c : Dev nD) (l : List Op) (e : E) : sProp 𝕄 :=
  if used e = true then
    if Op.done e ∉ l then atPos ER (xC false c e) (0 + 1) ∅ 0
    else if Op.send e ∉ l then iprop(atPos ER (xC false c e) 0 ∅ 0 ∗ cred (tallyAt (xC false c e) () N))
    else iprop(atPos ER (xC false c e) 0 ∅ 0 ∗ dutyTok ER (xC false c e) 0 0 ∗ dutyTok ER (xC true (tgt σ e.1 c) e) 0 0 ∗ target (F := F) σ c e)
  else atPos ER (xC false c e) 0 ∅ 0
def recvPart (c : Dev nD) (l : List Op) (e : E) : sProp 𝕄 :=
  if used e = true then
    if Op.recv e ∉ l then atPos ER (xC true c e) (0 + 1) ∅ 0
    else iprop(atPos ER (xC true c e) 0 ∅ 0 ∗ cred (tallyAt (xC true c e) () N))
  else atPos ER (xC true c e) 0 ∅ 0
def piecePart (c : Dev nD) (l : List Op) (p : P) : sProp 𝕄 :=
  if here l p = true ∧ away l p = false then pieceC σ m c p else iprop(emp)

/-- All of it, and whatever else it holds meanwhile. -/
def St (Fr : sProp 𝕄) (c : Dev nD) (l : List Op) : sProp 𝕄 :=
  iprop(Fr ∗ (∃ W, owes (c : Thread nD τ) (owedE σ c l) W) ∗ bigSep Finset.univ (sendPart (F := F) σ c l) ∗ bigSep Finset.univ (recvPart (F := F) c l)
    ∗ bigSep Finset.univ (piecePart σ m c l))

theorem allFine_cons {o : Op} {l : List Op} (h : allFine (o :: l) = true) : fine o l = true ∧ allFine l = true := by
  unfold allFine at h; exact Bool.and_eq_true_iff.mp h

theorem here_skip {o : Op} {l : List Op} {p : P} (ho : ∀ e, comes p = some e → o ≠ .recv e) : here (o :: l) p = here l p := by
  unfold here
  cases hc : comes p with
  | none => rfl
  | some e => simp only [List.mem_cons, (ho e hc).symm, false_or]
theorem away_skip {o : Op} {l : List Op} {p : P} (h₁ : ∀ e, pieceOf e = p → o ≠ .send e) (h₂ : ∀ e, pieceOf e = p → o ≠ .done e) :
    away (o :: l) p = away l p := by
  unfold away
  split
  · next h =>
    have hp : pieceOf (⟨p.1.val, h⟩, p.2) = p := rfl
    simp only [List.mem_cons, (h₁ _ hp).symm, (h₂ _ hp).symm, false_or]
  · rfl
theorem away_of (l : List Op) (e : E) : away l (pieceOf e) = (used e && decide (Op.send e ∉ l) && decide (Op.done e ∈ l)) := by
  unfold away
  rw [dif_pos (show (pieceOf e).1.val < 9 from e.1.isLt)]
  rfl
theorem pieceOf_inj {e e' : E} (h : pieceOf e = pieceOf e') : e = e' :=
  Prod.ext (Fin.castSucc_injective 9 (congrArg Prod.fst h)) (congrArg (fun p : P => p.2) h)

/-! ## Sending -/

/-- A send, whatever buffer it is from: the chunk is lent, the target written. -/
theorem step_send (Fr : sProp 𝕄) {sp : Space} (c : Dev nD) (e : E) (l : List Op) (hl : allFine (.send e :: l) = true)
    (src : Memref sig .tc sp S1x32x1024 .f32) (fs : Buf (Elt F) (src.view.loc (c : Thread nD τ))) (q : PosShare TreeShare)
    (hp : pieceC σ m c (pieceOf e) = (src.view.loc (c : Thread nD τ) ↦[src.view.set]{q} fs : sProp 𝕄))
    (hland : ∀ fd, ∀ i ∈ chunk (part e.1.castSucc c, e.2),
      (oB (part e.1.castSucc c) e.2).view.write (Elt F) fd (src.view.read (Elt F) fs) Finset.univ i = outF σ m (tgt σ e.1 c) i)
    {hsc : (oB (part e.1.castSucc c) e.2 : Memref sig (Dev.tc (tgt σ e.1 c) : Thread nD τ).2.kind .vmem S1x32x1024 .f32).view.ref.isScScratch = false}
    {hsrc : src.view.WordExact} {hdst : (oB (part e.1.castSucc c) e.2).view.WordExact}
    {hsem : DmaTarget.Typed sp (.dma (semOf true e)) (.remote (Dev.tc (tgt σ e.1 c) : Thread nD τ) (oB (part e.1.castSucc c) e.2) (.dma (semOf false e)) hsc)}
    {α : Type} {Q : α → sProp 𝕄} {k : PUnit → Prog (TpuEff nD τ sig (Elt F) Λ₀ .tc) α}
    (hk : allFine l = true → iprop(records σ m K ∗ St σ m Fr c l) ⊢ wp frame (wpE (defs₀ (F := F)) 𝒱₀ (c : Thread nD τ) none) Set.univ (k ⟨⟩) Q) :
    iprop(records σ m K ∗ St σ m Fr c (.send e :: l)) ⊢ wp frame (wpE (defs₀ (F := F)) 𝒱₀ (c : Thread nD τ) none) Set.univ
      (.op (.enqueueDma src (.remote (Dev.tc (tgt σ e.1 c) : Thread nD τ) (oB (part e.1.castSucc c) e.2) (.dma (semOf false e)) hsc) (.dma (semOf true e)) hsrc hdst hsem) k) Q := by
  obtain ⟨hf, hl'⟩ := allFine_cons hl
  unfold fine at hf
  simp only [Bool.and_eq_true, decide_eq_true_eq] at hf
  obtain ⟨⟨⟨hu, hns⟩, hh⟩, hd⟩ := hf
  have hS : ∀ e', e' ≠ e → sendPart (F := F) σ c (.send e :: l) e' = sendPart σ c l e' := fun e' h => by
    unfold sendPart; simp only [List.mem_cons, Op.send.injEq, h, false_or, reduceCtorEq]
  have hR : recvPart (F := F) c (.send e :: l) = recvPart c l := funext fun e' => by
    unfold recvPart; simp only [List.mem_cons, false_or, reduceCtorEq]
  have hP : ∀ p, p ≠ pieceOf e → piecePart σ m c (.send e :: l) p = piecePart σ m c l p := fun p h => by
    unfold piecePart
    rw [here_skip fun _ _ => by simp, away_skip (fun e' he h' => h (by cases h'; exact he.symm)) fun _ _ => by simp]
  have hs0 : sendPart (F := F) σ c (.send e :: l) e
      = iprop(atPos ER (xC false c e) 0 ∅ 0 ∗ dutyTok ER (xC false c e) 0 0 ∗ dutyTok ER (xC true (tgt σ e.1 c) e) 0 0 ∗ target (F := F) σ c e) := by
    unfold sendPart
    rw [if_pos hu, if_neg (fun h => h (List.mem_cons_of_mem _ hd)), if_neg (fun h => h List.mem_cons_self)]
  have hs1 : sendPart (F := F) σ c l e = iprop(atPos ER (xC false c e) 0 ∅ 0 ∗ cred (tallyAt (xC false c e) () N)) := by
    unfold sendPart
    rw [if_pos hu, if_neg (fun h => h hd), if_pos hns]
  have hp0 : piecePart σ m c (.send e :: l) (pieceOf e) = pieceC σ m c (pieceOf e) := by
    unfold piecePart
    rw [if_pos ⟨hh, by rw [away_of]; simp⟩]
  have hp1 : piecePart σ m c l (pieceOf e) = iprop(emp) := by
    unfold piecePart
    rw [if_neg fun h => by rw [away_of, hu, decide_eq_true hns, decide_eq_true hd] at h; exact absurd h.2 (by decide)]
  have hA := bigSep_swap1 e hS
  rw [hs0, hs1] at hA
  unfold target at hA
  have hB := bigSep_swap1 (pieceOf e) hP
  rw [hp0, hp1, hp] at hB
  unfold St
  rw [owedE_send σ c e l hu hns, hR]
  iintro ⟨#HI, HF, ⟨%W, HO⟩, HS, HR, HP⟩
  ihave HS := hA $$ HS
  icases HS with ⟨⟨Hat, Htk, Htk', ⟨%fd, Hd⟩⟩, HSk⟩
  ihave HP := hB $$ HP
  icases HP with ⟨HP, HPk⟩
  iapply (Rounds.wp_send_pointsTo 𝒱₀ ER (Rd σ m) (c : Thread nD τ) none (κ₁ := K (c, some (false, e))) (κ₂ := K (tgt σ e.1 c, some (true, e)))
    (c' := (Dev.tc (tgt σ e.1 c) : Thread nD τ)) (src := src) (dst := oB (part e.1.castSucc c) e.2) (fs := fs) (q := q)
    (r₁ := 0) (r₂ := 0) (d₁ := 0) (d₂ := 0) (fd := fd)
    (by rw [duties_xfer σ m false c hu]; exact Finset.mem_singleton_self _) (by rw [duties_xfer σ m true (tgt σ e.1 c) hu]; exact Finset.mem_singleton_self _)
    () () N (amount_eq _ _ _) rfl rfl (owedE σ c l) rfl (W := W)
    (by rw [payload_sent, hp])
    (by
      rw [payload_arrived]; unfold arrived oPts
      rw [part_next, oB_set]
      exact Entails.of_eq (pointsTo_congr (hland fd)))) $$ [Htk Htk' Hd HP HO]
  · isplitr; · iapply (records_inv σ m K (c, some (false, e))); iexact HI
    isplitr; · iapply (records_inv σ m K (tgt σ e.1 c, some (true, e))); iexact HI
    isplitl [HP]; · iexact HP
    isplitl [Hd]; · unfold oPts; rw [oB_set]; iexact Hd
    isplitl [HO]; · iexact HO
    isplitl [Htk]; · iexact Htk
    isplitr; · iapply (records_reached σ m K (c, some (false, e))); iexact HI
    isplitl [Htk']; · iexact Htk'
    iapply (records_reached σ m K (tgt σ e.1 c, some (true, e))); iexact HI
  iintro ⟨Hc, HO⟩
  ihave HS := HSk $$ [Hat Hc]
  · isplitl [Hat] <;> iassumption
  ihave HP := HPk $$ []
  · iempintro
  iapply (hk hl')
  isplitr; · iexact HI
  unfold St
  isplitl [HF]; · iexact HF
  isplitl [HO]; · iexists W; iexact HO
  isplitl [HS]; · iexact HS
  isplitl [HR]; · iexact HR
  iexact HP

theorem part_own (c : Dev nD) : part 8 c = ring c :=
  (show ∀ r : Fin 8, r + shift 8 = r from by decide) (ring c)

/-- A send of the device's own part, from its block of `x`; the program's words for the chunk's offset, the receiver
    and the two semaphores are the values they have. -/
theorem step_send_own (Fr : sProp 𝕄) (c : Dev nD) (k' : Fin 8) (l : List Op) (hl : allFine (.send (8, k') :: l) = true) {off : Fin 3 → ℕ}
    (ho : off = blkOff (part 8 c) k') {n : Dev nD} (hn : n = tgt σ 8 c) {q₁ q₂ : DmaSem sig} (hq₁ : q₁ = semOf false (8, k')) (hq₂ : q₂ = semOf true (8, k'))
    {i₁ i₂ : ∀ a, off a + S1x32x1024.size a ≤ S1x2048x1024.size a}
    {hsc : (oM.slice (rectAt off i₂) (fun _ => rfl) : Memref sig (Dev.tc n : Thread nD τ).2.kind .vmem S1x32x1024 .f32).view.ref.isScScratch = false}
    {hsrc : (xM.slice (rectAt off i₁) (fun _ => rfl)).view.WordExact} {hdst : (oM.slice (rectAt off i₂) (fun _ => rfl)).view.WordExact}
    {hsem : DmaTarget.Typed .hbm (.dma q₂) (.remote (Dev.tc n : Thread nD τ) (oM.slice (rectAt off i₂) (fun _ => rfl)) (.dma q₁) hsc)}
    {α : Type} {Q : α → sProp 𝕄} {k : PUnit → Prog (TpuEff nD τ sig (Elt F) Λ₀ .tc) α}
    (hk : allFine l = true → iprop(records σ m K ∗ St σ m Fr c l) ⊢ wp frame (wpE (defs₀ (F := F)) 𝒱₀ (c : Thread nD τ) none) Set.univ (k ⟨⟩) Q) :
    iprop(records σ m K ∗ St σ m Fr c (.send (8, k') :: l)) ⊢ wp frame (wpE (defs₀ (F := F)) 𝒱₀ (c : Thread nD τ) none) Set.univ
      (.op (.enqueueDma (xM.slice (rectAt off i₁) (fun _ => rfl)) (.remote (Dev.tc n : Thread nD τ) (oM.slice (rectAt off i₂) (fun _ => rfl)) (.dma q₁) hsc) (.dma q₂) hsrc hdst hsem) k) Q := by
  subst ho hn hq₁ hq₂
  exact step_send σ m K Fr c (8, k') l hl (xB (part 8 c) k') (xF m c) fullShare
    (by unfold pieceC; rw [if_pos (show (pieceOf (8, k')).1 = 8 from rfl)]; unfold xPts; rw [xB_set]; rfl)
    (fun fd i hi => (land (part 8 c) k' fd (xF m c) i hi).trans (outF_own σ m c k' i (by
      rw [← part_own c]; exact hi)).symm) hk

/-- A send of a chunk passed on, from the device's own result. -/
theorem step_send_on (Fr : sProp 𝕄) (c : Dev nD) (e : E) (l : List Op) (hl : allFine (.send e :: l) = true) {off : Fin 3 → ℕ} (he : e.1 ≠ 8)
    (ho : off = blkOff (part e.1.castSucc c) e.2) {n : Dev nD} (hn : n = tgt σ e.1 c) {q₁ q₂ : DmaSem sig} (hq₁ : q₁ = semOf false e) (hq₂ : q₂ = semOf true e)
    {i₁ i₂ : ∀ a, off a + S1x32x1024.size a ≤ S1x2048x1024.size a}
    {hsc : (oM.slice (rectAt off i₂) (fun _ => rfl) : Memref sig (Dev.tc n : Thread nD τ).2.kind .vmem S1x32x1024 .f32).view.ref.isScScratch = false}
    {hsrc : (oM.slice (rectAt off i₁) (fun _ => rfl)).view.WordExact} {hdst : (oM.slice (rectAt off i₂) (fun _ => rfl)).view.WordExact}
    {hsem : DmaTarget.Typed .vmem (.dma q₂) (.remote (Dev.tc n : Thread nD τ) (oM.slice (rectAt off i₂) (fun _ => rfl)) (.dma q₁) hsc)}
    {α : Type} {Q : α → sProp 𝕄} {k : PUnit → Prog (TpuEff nD τ sig (Elt F) Λ₀ .tc) α}
    (hk : allFine l = true → iprop(records σ m K ∗ St σ m Fr c l) ⊢ wp frame (wpE (defs₀ (F := F)) 𝒱₀ (c : Thread nD τ) none) Set.univ (k ⟨⟩) Q) :
    iprop(records σ m K ∗ St σ m Fr c (.send e :: l)) ⊢ wp frame (wpE (defs₀ (F := F)) 𝒱₀ (c : Thread nD τ) none) Set.univ
      (.op (.enqueueDma (oM.slice (rectAt off i₁) (fun _ => rfl)) (.remote (Dev.tc n : Thread nD τ) (oM.slice (rectAt off i₂) (fun _ => rfl)) (.dma q₁) hsc) (.dma q₂) hsrc hdst hsem) k) Q := by
  subst ho hn hq₁ hq₂
  exact step_send σ m K Fr c e l hl (oB (part e.1.castSucc c) e.2) (outF σ m c) (shareOf e.1.castSucc)
    (by
      unfold pieceC
      rw [if_neg (show ¬ (pieceOf e).1 = 8 from fun h => he (Fin.castSucc_injective 9 h))]
      unfold oPts; rw [oB_set]; rfl)
    (fun fd i hi => (land' _ _ fd (outF σ m c) i hi).trans (congrFun (outF_row σ m (by rw [row_tgt, if_neg he])) i)) hk

/-! ## Waiting -/

/-- An arrived chunk is the pieces it makes. -/
theorem arrived_pieces (c : Dev nD) (e : E) : arrived σ m c e ⊢ bigSep (gets e) (pieceC (F := F) σ m c) := by
  obtain ⟨t, k'⟩ := e
  unfold gets arrived
  split
  · next h =>
    change t = 8 at h
    subst h
    rw [bigSep_insert (by simp), bigSep_singleton]
    unfold pieceC
    rw [if_neg (show ¬ (0 : Fin 10) = 8 from by decide), if_neg (show ¬ (4 : Fin 10) = 8 from by decide)]
    exact (pointsTo_share (PosShare.mem_left_op_right fullShare)).1
  · next h =>
    change ¬ t = 8 at h
    rw [bigSep_singleton]
    unfold pieceC
    rw [if_neg (show ¬ ((next t, k') : P).1 = 8 from (show ∀ t : Fin 9, next t ≠ 8 from by decide) t),
      show shareOf ((next t, k') : P).1 = fullShare from (show ∀ t : Fin 9, t ≠ 8 → shareOf (next t) = fullShare from by
        intro t ht; fin_cases t <;> first | rfl | exact absurd rfl ht) t h]

/-- A wait for an arrival. -/
theorem step_recv (Fr : sProp 𝕄) {sp : Space} (c : Dev nD) (e : E) (l : List Op) (hl : allFine (.recv e :: l) = true)
    {q : DmaSem sig} (hq : q = semOf true e) {src : Memref sig .tc sp S1x32x1024 .f32} {dst : Memref sig .tc .vmem S1x32x1024 .f32} (hN : dst.view.dmaCredit = N)
    {hsrc : src.view.WordExact} {hdst : dst.view.WordExact}
    {α : Type} {Q : α → sProp 𝕄} {k : PUnit → Prog (TpuEff nD τ sig (Elt F) Λ₀ .tc) α}
    (hk : allFine l = true → iprop(records σ m K ∗ St σ m Fr c l) ⊢ wp frame (wpE (defs₀ (F := F)) 𝒱₀ (c : Thread nD τ) none) Set.univ (k ⟨⟩) Q) :
    iprop(records σ m K ∗ St σ m Fr c (.recv e :: l)) ⊢ wp frame (wpE (defs₀ (F := F)) 𝒱₀ (c : Thread nD τ) none) Set.univ
      (.op (.waitDma2 q src dst hsrc hdst) k) Q := by
  subst hq
  obtain ⟨hf, hl'⟩ := allFine_cons hl
  unfold fine at hf
  simp only [Bool.and_eq_true, decide_eq_true_eq] at hf
  obtain ⟨⟨⟨hu, hnr⟩, hlev⟩, haw⟩ := hf
  have hS : sendPart (F := F) σ c (.recv e :: l) = sendPart σ c l := funext fun e' => by
    unfold sendPart; simp only [List.mem_cons, false_or, reduceCtorEq]
  have hR : ∀ e', e' ≠ e → recvPart (F := F) c (.recv e :: l) e' = recvPart c l e' := fun e' h => by
    unfold recvPart; simp only [List.mem_cons, Op.recv.injEq, h, false_or]
  have hP : ∀ p, p ∉ gets e → piecePart σ m c (.recv e :: l) p = piecePart σ m c l p := fun p h => by
    unfold piecePart
    rw [here_skip fun e' he h' => h (by cases h'; exact (gets_iff e p hu).mpr he), away_skip (fun _ _ => by simp) fun _ _ => by simp]
  have hr0 : recvPart (F := F) c (.recv e :: l) e = iprop(atPos ER (xC true c e) 0 ∅ 0 ∗ cred (tallyAt (xC true c e) () N)) := by
    unfold recvPart
    rw [if_pos hu, if_neg (fun h => h List.mem_cons_self)]
  have hr1 : recvPart (F := F) c l e = atPos ER (xC true c e) (0 + 1) ∅ 0 := by
    unfold recvPart
    rw [if_pos hu, if_pos hnr]
  have hA := bigSep_swap1 e hR
  rw [hr0, hr1] at hA
  have hB := bigSep_swap (gets e) hP
  rw [bigSep_congr (s := gets e) (Φ := piecePart σ m c l) (Ψ := pieceC σ m c) fun p hp => by
    unfold piecePart
    rw [if_pos ⟨by unfold here; rw [(gets_iff e p hu).mp hp]; exact decide_eq_true hnr, haw p hp⟩]] at hB
  unfold St
  rw [owedE_skip σ c (.recv e) l (fun _ h => by cases h), hS]
  iintro ⟨#HI, HF, ⟨%W, HO⟩, HS, HR, HP⟩
  ihave HR := hA $$ HR
  icases HR with ⟨⟨Hat, Hc⟩, HRk⟩
  ihave HP := hB $$ HP
  icases HP with ⟨-, HPk⟩
  iapply (Rounds.wp_wait_rest_token 𝒱₀ ER (Rd σ m) (c : Thread nD τ) none (κ := K (c, some (true, e)))
      (wpE_waitDma2_eq 𝒱₀ (c : Thread nD τ) none Set.univ) (Set.mem_univ _) () (O := owedE σ c l) (W := W) (R := 0) (m := 0) (T := ∅)
      (by rw [Nat.zero_add, expect_xfer σ m true c hu, hN])) $$ [Hc HO Hat]
  · isplitr; · iapply (records_inv σ m K (c, some (true, e))); iexact HI
    isplitl [Hc]; · rw [hN]; iexact Hc
    isplitl [HO]; · iexact HO
    isplitr; · iapply (records_recv σ m K c e l hlev); iexact HI
    iexact Hat
  iintro ⟨HO, Hat, -, Hpay⟩
  ihave Hp := (Entails.of_eq ((rest_xfer σ m true c hu).trans (payload_arrived σ m c e 0 0))) $$ Hpay
  ihave Hp := (arrived_pieces σ m c e) $$ Hp
  ihave HR := HRk $$ Hat
  ihave HP := HPk $$ Hp
  iapply (hk hl')
  isplitr; · iexact HI
  unfold St
  isplitl [HF]; · iexact HF
  isplitl [HO]; · iexists _; iexact HO
  isplitl [HS]; · iexact HS
  isplitl [HR]; · iexact HR
  iexact HP

/-- A wait for a departure. -/
theorem step_done (Fr : sProp 𝕄) {sp : Space} (c : Dev nD) (e : E) (l : List Op) (hl : allFine (.done e :: l) = true)
    {q : DmaSem sig} (hq : q = semOf false e) {src : Memref sig .tc sp S1x32x1024 .f32} {sp' : Space} {dst : Memref sig .tc sp' S1x32x1024 .f32} (hN : dst.view.dmaCredit = N)
    {hsrc : src.view.WordExact} {hdst : dst.view.WordExact}
    {α : Type} {Q : α → sProp 𝕄} {k : PUnit → Prog (TpuEff nD τ sig (Elt F) Λ₀ .tc) α}
    (hk : allFine l = true → iprop(records σ m K ∗ St σ m Fr c l) ⊢ wp frame (wpE (defs₀ (F := F)) 𝒱₀ (c : Thread nD τ) none) Set.univ (k ⟨⟩) Q) :
    iprop(records σ m K ∗ St σ m Fr c (.done e :: l)) ⊢ wp frame (wpE (defs₀ (F := F)) 𝒱₀ (c : Thread nD τ) none) Set.univ
      (.op (.waitDma2 q src dst hsrc hdst) k) Q := by
  subst hq
  obtain ⟨hf, hl'⟩ := allFine_cons hl
  unfold fine at hf
  simp only [Bool.and_eq_true, decide_eq_true_eq] at hf
  obtain ⟨⟨⟨hu, hnd⟩, hns⟩, hh⟩ := hf
  have hS : ∀ e', e' ≠ e → sendPart (F := F) σ c (.done e :: l) e' = sendPart σ c l e' := fun e' h => by
    unfold sendPart; simp only [List.mem_cons, Op.done.injEq, h, false_or, reduceCtorEq]
  have hR : recvPart (F := F) c (.done e :: l) = recvPart c l := funext fun e' => by
    unfold recvPart; simp only [List.mem_cons, false_or, reduceCtorEq]
  have hP : ∀ p, p ≠ pieceOf e → piecePart σ m c (.done e :: l) p = piecePart σ m c l p := fun p h => by
    unfold piecePart
    rw [here_skip fun _ _ => by simp, away_skip (fun _ _ => by simp) fun e' he h' => h (by cases h'; exact he.symm)]
  have hs0 : sendPart (F := F) σ c (.done e :: l) e = iprop(atPos ER (xC false c e) 0 ∅ 0 ∗ cred (tallyAt (xC false c e) () N)) := by
    unfold sendPart
    rw [if_pos hu, if_neg (fun h => h List.mem_cons_self), if_pos (by simp [hns e])]
  have hs1 : sendPart (F := F) σ c l e = atPos ER (xC false c e) (0 + 1) ∅ 0 := by
    unfold sendPart
    rw [if_pos hu, if_pos hnd]
  have hp1 : piecePart σ m c l (pieceOf e) = pieceC σ m c (pieceOf e) := by
    unfold piecePart
    rw [if_pos ⟨hh, by rw [away_of, decide_eq_false hnd, Bool.and_false]⟩]
  have hA := bigSep_swap1 e hS
  rw [hs0, hs1] at hA
  have hB := bigSep_swap1 (pieceOf e) hP
  rw [hp1] at hB
  unfold St
  rw [owedE_skip σ c (.done e) l (fun _ h => by cases h), owedE_none σ c l hns, hR]
  iintro ⟨#HI, HF, ⟨%W, HO⟩, HS, HR, HP⟩
  ihave HS := hA $$ HS
  icases HS with ⟨⟨Hat, Hc⟩, HSk⟩
  ihave HP := hB $$ HP
  icases HP with ⟨-, HPk⟩
  iapply (Rounds.wp_wait_rest_token 𝒱₀ ER (Rd σ m) (c : Thread nD τ) none (κ := K (c, some (false, e)))
      (wpE_waitDma2_eq 𝒱₀ (c : Thread nD τ) none Set.univ) (Set.mem_univ _) () (O := 0) (W := W) (R := 0) (m := 0) (T := ∅)
      (by rw [Nat.zero_add, expect_xfer σ m false c hu, hN])) $$ [Hc HO Hat]
  · isplitr; · iapply (records_inv σ m K (c, some (false, e))); iexact HI
    isplitl [Hc]; · rw [hN]; iexact Hc
    isplitl [HO]; · iexact HO
    isplitr; · rw [MayWait_zero]; iempintro
    iexact Hat
  iintro ⟨HO, Hat, -, Hpay⟩
  ihave Hp := (Entails.of_eq ((rest_xfer σ m false c hu).trans (payload_sent σ m c e 0 0))) $$ Hpay
  ihave HS := HSk $$ Hat
  ihave HP := HPk $$ Hp
  iapply (hk hl')
  isplitr; · iexact HI
  unfold St
  isplitl [HF]; · iexact HF
  isplitl [HO]
  · iexists _
    rw [owedE_none σ c l hns]; iexact HO
  isplitl [HS]; · iexact HS
  isplitl [HR]; · iexact HR
  iexact HP

end State

end Cert.MoveProof

end
-- ==== Proof.Walk.lean ====
/-
# Along the list, by position

The steps of a device from one action of its list to the next, the device told by how many actions are behind it; and
the start before the list: the three signals to the devices that write here, and the wait for the device's own three
units, which bring the places it will write.
-/
module

public import proofs.«01_k».proof.Proof.State

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The steps along the list, by position -/

theorem allFine_drop : ∀ (l : List Op), allFine l = true → ∀ n, allFine (l.drop n) = true
  | l, h, 0 => by rwa [List.drop_zero]
  | [], _, n + 1 => rfl
  | o :: l, h, n + 1 => by rw [List.drop_succ_cons]; exact allFine_drop l (allFine_cons h).2 n
theorem fine_at {n : ℕ} {o : Op} {l : List Op} (h : script.drop n = o :: l) : allFine (o :: l) = true := by
  rw [← h]; exact allFine_drop script script_fine n

section Walk
variable (σ : Equiv.Perm (Fin 4)) (m : (ℓ : Loc nD τ sig) → Buf (Elt F) ℓ) (K : Dev nD × KI → ℕ)

/-- What a device holds once the first `n` actions are behind. -/
def Inv (Fr : sProp 𝕄) (c : Dev nD) (n : ℕ) : sProp 𝕄 := iprop(records σ m K ∗ St σ m Fr c (script.drop n))

theorem at_own (Fr : sProp 𝕄) (c : Dev nD) (n : ℕ) (k' : Fin 8) (h : script.drop n = .send (8, k') :: script.drop (n + 1)) {off : Fin 3 → ℕ}
    (ho : off = blkOff (part 8 c) k') {d : Dev nD} (hn : d = tgt σ 8 c) {q₁ q₂ : DmaSem sig} (hq₁ : q₁ = semOf false (8, k')) (hq₂ : q₂ = semOf true (8, k'))
    {i₁ i₂ : ∀ a, off a + S1x32x1024.size a ≤ S1x2048x1024.size a}
    {hsc : (oM.slice (rectAt off i₂) (fun _ => rfl) : Memref sig (Dev.tc d : Thread nD τ).2.kind .vmem S1x32x1024 .f32).view.ref.isScScratch = false}
    {hsrc : (xM.slice (rectAt off i₁) (fun _ => rfl)).view.WordExact} {hdst : (oM.slice (rectAt off i₂) (fun _ => rfl)).view.WordExact}
    {hsem : DmaTarget.Typed .hbm (.dma q₂) (.remote (Dev.tc d : Thread nD τ) (oM.slice (rectAt off i₂) (fun _ => rfl)) (.dma q₁) hsc)}
    {α : Type} {Q : α → sProp 𝕄} {k : PUnit → Prog (TpuEff nD τ sig (Elt F) Λ₀ .tc) α}
    (hk : Inv σ m K Fr c (n + 1) ⊢ wp frame (wpE (defs₀ (F := F)) 𝒱₀ (c : Thread nD τ) none) Set.univ (k ⟨⟩) Q) :
    Inv σ m K Fr c n ⊢ wp frame (wpE (defs₀ (F := F)) 𝒱₀ (c : Thread nD τ) none) Set.univ
      (.op (.enqueueDma (xM.slice (rectAt off i₁) (fun _ => rfl)) (.remote (Dev.tc d : Thread nD τ) (oM.slice (rectAt off i₂) (fun _ => rfl)) (.dma q₁) hsc) (.dma q₂) hsrc hdst hsem) k) Q := by
  unfold Inv at hk ⊢
  rw [h]
  exact step_send_own σ m K Fr c k' _ (fine_at h) ho hn hq₁ hq₂ fun _ => hk

theorem at_on (Fr : sProp 𝕄) (c : Dev nD) (n : ℕ) (e : E) (h : script.drop n = .send e :: script.drop (n + 1)) {off : Fin 3 → ℕ} (he : e.1 ≠ 8)
    (ho : off = blkOff (part e.1.castSucc c) e.2) {d : Dev nD} (hn : d = tgt σ e.1 c) {q₁ q₂ : DmaSem sig} (hq₁ : q₁ = semOf false e) (hq₂ : q₂ = semOf true e)
    {i₁ i₂ : ∀ a, off a + S1x32x1024.size a ≤ S1x2048x1024.size a}
    {hsc : (oM.slice (rectAt off i₂) (fun _ => rfl) : Memref sig (Dev.tc d : Thread nD τ).2.kind .vmem S1x32x1024 .f32).view.ref.isScScratch = false}
    {hsrc : (oM.slice (rectAt off i₁) (fun _ => rfl)).view.WordExact} {hdst : (oM.slice (rectAt off i₂) (fun _ => rfl)).view.WordExact}
    {hsem : DmaTarget.Typed .vmem (.dma q₂) (.remote (Dev.tc d : Thread nD τ) (oM.slice (rectAt off i₂) (fun _ => rfl)) (.dma q₁) hsc)}
    {α : Type} {Q : α → sProp 𝕄} {k : PUnit → Prog (TpuEff nD τ sig (Elt F) Λ₀ .tc) α}
    (hk : Inv σ m K Fr c (n + 1) ⊢ wp frame (wpE (defs₀ (F := F)) 𝒱₀ (c : Thread nD τ) none) Set.univ (k ⟨⟩) Q) :
    Inv σ m K Fr c n ⊢ wp frame (wpE (defs₀ (F := F)) 𝒱₀ (c : Thread nD τ) none) Set.univ
      (.op (.enqueueDma (oM.slice (rectAt off i₁) (fun _ => rfl)) (.remote (Dev.tc d : Thread nD τ) (oM.slice (rectAt off i₂) (fun _ => rfl)) (.dma q₁) hsc) (.dma q₂) hsrc hdst hsem) k) Q := by
  unfold Inv at hk ⊢
  rw [h]
  exact step_send_on σ m K Fr c e _ (fine_at h) he ho hn hq₁ hq₂ fun _ => hk

theorem at_recv (Fr : sProp 𝕄) (c : Dev nD) (n : ℕ) (e : E) (h : script.drop n = .recv e :: script.drop (n + 1)) {sp : Space}
    {q : DmaSem sig} (hq : q = semOf true e) {src : Memref sig .tc sp S1x32x1024 .f32} {dst : Memref sig .tc .vmem S1x32x1024 .f32} (hN : dst.view.dmaCredit = N)
    {hsrc : src.view.WordExact} {hdst : dst.view.WordExact}
    {α : Type} {Q : α → sProp 𝕄} {k : PUnit → Prog (TpuEff nD τ sig (Elt F) Λ₀ .tc) α}
    (hk : Inv σ m K Fr c (n + 1) ⊢ wp frame (wpE (defs₀ (F := F)) 𝒱₀ (c : Thread nD τ) none) Set.univ (k ⟨⟩) Q) :
    Inv σ m K Fr c n ⊢ wp frame (wpE (defs₀ (F := F)) 𝒱₀ (c : Thread nD τ) none) Set.univ
      (.op (.waitDma2 q src dst hsrc hdst) k) Q := by
  unfold Inv at hk ⊢
  rw [h]
  exact step_recv σ m K Fr c e _ (fine_at h) hq hN fun _ => hk

theorem at_done (Fr : sProp 𝕄) (c : Dev nD) (n : ℕ) (e : E) (h : script.drop n = .done e :: script.drop (n + 1)) {sp : Space}
    {q : DmaSem sig} (hq : q = semOf false e) {src : Memref sig .tc sp S1x32x1024 .f32} {sp' : Space} {dst : Memref sig .tc sp' S1x32x1024 .f32} (hN : dst.view.dmaCredit = N)
    {hsrc : src.view.WordExact} {hdst : dst.view.WordExact}
    {α : Type} {Q : α → sProp 𝕄} {k : PUnit → Prog (TpuEff nD τ sig (Elt F) Λ₀ .tc) α}
    (hk : Inv σ m K Fr c (n + 1) ⊢ wp frame (wpE (defs₀ (F := F)) 𝒱₀ (c : Thread nD τ) none) Set.univ (k ⟨⟩) Q) :
    Inv σ m K Fr c n ⊢ wp frame (wpE (defs₀ (F := F)) 𝒱₀ (c : Thread nD τ) none) Set.univ
      (.op (.waitDma2 q src dst hsrc hdst) k) Q := by
  unfold Inv at hk ⊢
  rw [h]
  exact step_done σ m K Fr c e _ (fine_at h) hq hN fun _ => hk

/-! ## Parts of the program, one after another -/

/-- A part that ends in `A'` whatever it returns, before the rest. -/
theorem then_any {α β : Type} {A A' : sProp 𝕄} {c : Dev nD} {p : Prog (TpuEff nD τ sig (Elt F) Λ₀ .tc) α} {k : α → Prog (TpuEff nD τ sig (Elt F) Λ₀ .tc) β} {Q : β → sProp 𝕄}
    (hp : A ⊢ wp frame (wpE (defs₀ (F := F)) 𝒱₀ (c : Thread nD τ) none) Set.univ p (fun _ => A'))
    (hk : ∀ a, A' ⊢ wp frame (wpE (defs₀ (F := F)) 𝒱₀ (c : Thread nD τ) none) Set.univ (k a) Q) :
    A ⊢ wp frame (wpE (defs₀ (F := F)) 𝒱₀ (c : Thread nD τ) none) Set.univ (p >>= k) Q := by
  rw [wp_bind]
  exact hp.trans (wp_mono _ _ _ hk)
/-- A part whose result has a property, before the rest. -/
theorem then_such {α β : Type} {A A' : sProp 𝕄} {c : Dev nD} {p : Prog (TpuEff nD τ sig (Elt F) Λ₀ .tc) α} {k : α → Prog (TpuEff nD τ sig (Elt F) Λ₀ .tc) β} {Q : β → sProp 𝕄}
    (P : α → Prop) (hp : A ⊢ wp frame (wpE (defs₀ (F := F)) 𝒱₀ (c : Thread nD τ) none) Set.univ p (fun a => iprop(⌜P a⌝ ∗ A')))
    (hk : ∀ a, P a → A' ⊢ wp frame (wpE (defs₀ (F := F)) 𝒱₀ (c : Thread nD τ) none) Set.univ (k a) Q) :
    A ⊢ wp frame (wpE (defs₀ (F := F)) 𝒱₀ (c : Thread nD τ) none) Set.univ (p >>= k) Q := by
  rw [wp_bind]
  refine hp.trans (wp_mono _ _ _ fun a => ?_)
  iintro ⟨%h, H⟩
  iapply (hk a h)
  iexact H
theorem all_pairs {α : Type} {β : α → Type} {P : (Σ' a : α, β a) → Prop} (h : ∀ a b, P ⟨a, b⟩) : ∀ x, P x := fun x => h x.1 x.2

/-! ## The barrier -/

/-- Whom a device's three units go to. -/
def barTo (c : Dev nD) : Fin 3 → Dev nD := ![snd σ 8 c, down c, up c]
/-- Its sends' part of the state before it was told where they may land. -/
def sendStart (c : Dev nD) (e : E) : sProp 𝕄 :=
  if used e = true then iprop(atPos ER (xC false c e) 0 ∅ 0 ∗ dutyTok ER (xC false c e) 0 0 ∗ dutyTok ER (xC true (tgt σ e.1 c) e) 0 0)
  else atPos ER (xC false c e) 0 ∅ 0
/-- What a device holds before the barrier's wait: `ds` are the units it has yet to give, `O` all it owes. -/
def Bar (Fr : sProp 𝕄) (c : Dev nD) (ds : Finset (Fin 3)) (O : CellTallies nD τ sig Unit) : sProp 𝕄 :=
  iprop(records σ m K ∗ Fr ∗ (∃ W, owes (c : Thread nD τ) O W)
    ∗ bigSep ds (fun d => iprop(dutyTok ER (barC (barTo σ c d)) 0 d ∗ barPay (F := F) σ (barTo σ c d) d))
    ∗ (atPos ER (barC c) 0 ∅ 0 ∗ cred (tallyAt (barC c) () 3))
    ∗ bigSep Finset.univ (sendStart (F := F) σ c) ∗ bigSep Finset.univ (recvPart (F := F) c script) ∗ bigSep Finset.univ (piecePart σ m c script))

theorem payload_bar (c : Dev nD) (r : ℕ) (d : Fin 3) : (Rd (F := F) σ m).payload (barC c) r d = barPay σ c d := rfl
theorem at_signal (Fr : sProp 𝕄) (c : Dev nD) (d : Fin 3) {ds : Finset (Fin 3)} (hd : d ∈ ds) (O : CellTallies nD τ sig Unit)
    {n : Dev nD} (hn : n = barTo σ c d) {z : ℤ} (hz : z = ((1 : ℕ) : ℤ)) {s : Sem sig} (hs : s = barS)
    {α : Type} {Q : α → sProp 𝕄} {k : PUnit → Prog (TpuEff nD τ sig (Elt F) Λ₀ .tc) α}
    (hk : Bar σ m K Fr c (ds.erase d) O ⊢ wp frame (wpE (defs₀ (F := F)) 𝒱₀ (c : Thread nD τ) none) Set.univ (k ⟨⟩) Q) :
    Bar σ m K Fr c ds (O + tallyAt (barC (barTo σ c d)) () 1) ⊢ wp frame (wpE (defs₀ (F := F)) 𝒱₀ (c : Thread nD τ) none) Set.univ
      (.op (.semSignal (n, .tc) s z) k) Q := by
  subst hn hz hs
  unfold Bar at hk ⊢
  rw [bigSep_erase hd]
  show iprop(records σ m K ∗ Fr ∗ (∃ W, owes (c : Thread nD τ) (O + tallyAt (barC (barTo σ c d)) () 1) W)
    ∗ ((dutyTok ER (barC (barTo σ c d)) 0 d ∗ barPay (F := F) σ (barTo σ c d) d)
      ∗ bigSep (ds.erase d) (fun d => iprop(dutyTok ER (barC (barTo σ c d)) 0 d ∗ barPay (F := F) σ (barTo σ c d) d)))
    ∗ (atPos ER (barC c) 0 ∅ 0 ∗ cred (tallyAt (barC c) () 3))
    ∗ bigSep Finset.univ (sendStart (F := F) σ c) ∗ bigSep Finset.univ (recvPart (F := F) c script) ∗ bigSep Finset.univ (piecePart σ m c script)) ⊢ _
  iintro ⟨#HI, HF, ⟨%W, HO⟩, ⟨⟨Htk, Hpay⟩, Hds⟩, Hrest⟩
  iapply (Rounds.wp_signal 𝒱₀ ER (Rd σ m) (c : Thread nD τ) none (dst := (barTo σ c d : Thread nD τ)) (κ := K (barTo σ c d, none))
      (d := d) (by rw [duties_bar]; exact Finset.mem_univ _) rfl () O rfl (W := W)) $$ [HO Htk Hpay]
  · isplitr; · iapply (records_inv σ m K (barTo σ c d, none)); iexact HI
    isplitl [HO]; · iexact HO
    isplitl [Htk]; · iexact Htk
    isplitl [Hpay]; · rw [payload_bar]; iexact Hpay
    iapply (records_reached σ m K (barTo σ c d, none)); iexact HI
  iintro HO
  iapply hk
  isplitr; · iexact HI
  isplitl [HF]; · iexact HF
  isplitl [HO]; · iexists W; iexact HO
  isplitl [Hds]; · iexact Hds
  iexact Hrest

/-- All the devices' word together: every transfer's target. -/
theorem targets_eq (c : Dev nD) :
    bigSep Finset.univ (barPay (F := F) σ c) = bigSep Finset.univ fun e : E => if used e = true then target (F := F) σ c e else iprop(emp) := by
  refine Eq.trans ?_ (bigSep_filter Finset.univ (fun e : E => used e = true) (target (F := F) σ c))
  rw [show (Finset.univ.filter fun e : E => used e = true) = Finset.univ.biUnion usedBy from by decide +kernel,
    bigSep_biUnion_eq Finset.univ usedBy (target (F := F) σ c) fun a _ b _ hab => by
      unfold usedBy
      rw [Finset.disjoint_filter]
      exact fun e _ h h' => hab (h.2.symm.trans h'.2)]
  rfl
theorem script_has : ∀ e : E, used e = true → Op.send e ∈ script ∧ Op.recv e ∈ script ∧ Op.done e ∈ script := by decide +kernel
theorem sends_of (c : Dev nD) :
    iprop(bigSep Finset.univ (sendStart (F := F) σ c) ∗ bigSep Finset.univ fun e : E => if used e = true then target (F := F) σ c e else iprop(emp))
      ⊢ bigSep Finset.univ (sendPart (F := F) σ c script) := by
  refine (Entails.of_eq (bigSep_sep' _ _ _).symm).trans (bigSep_mono fun e _ => ?_)
  by_cases hu : used e = true
  · have h := script_has e hu
    have h1 : sendStart (F := F) σ c e = iprop(atPos ER (xC false c e) 0 ∅ 0 ∗ dutyTok ER (xC false c e) 0 0 ∗ dutyTok ER (xC true (tgt σ e.1 c) e) 0 0) := by
      unfold sendStart; rw [if_pos hu]
    have h2 : sendPart (F := F) σ c script e
        = iprop(atPos ER (xC false c e) 0 ∅ 0 ∗ dutyTok ER (xC false c e) 0 0 ∗ dutyTok ER (xC true (tgt σ e.1 c) e) 0 0 ∗ target (F := F) σ c e) := by
      unfold sendPart; rw [if_pos hu, if_neg (fun h' => h' h.2.2), if_neg (fun h' => h' h.1)]
    rw [h1, h2, if_pos hu]
    exact (show iprop((atPos ER (xC false c e) 0 ∅ 0 ∗ dutyTok ER (xC false c e) 0 0 ∗ dutyTok ER (xC true (tgt σ e.1 c) e) 0 0) ∗ target (F := F) σ c e)
        ⊢ iprop(atPos ER (xC false c e) 0 ∅ 0 ∗ dutyTok ER (xC false c e) 0 0 ∗ dutyTok ER (xC true (tgt σ e.1 c) e) 0 0 ∗ target (F := F) σ c e) from by
      iintro ⟨⟨H1, H2, H3⟩, H4⟩
      isplitl [H1]; · iexact H1
      isplitl [H2]; · iexact H2
      isplitl [H3] <;> iassumption)
  · have h1 : sendStart (F := F) σ c e = atPos ER (xC false c e) 0 ∅ 0 := by unfold sendStart; rw [if_neg hu]
    have h2 : sendPart (F := F) σ c script e = atPos ER (xC false c e) 0 ∅ 0 := by unfold sendPart; rw [if_neg hu]
    rw [h1, h2, if_neg hu]
    exact (show (iprop(atPos ER (xC false c e) 0 ∅ 0 ∗ emp) : sProp 𝕄) ⊢ atPos ER (xC false c e) 0 ∅ 0 from by
      iintro ⟨H, -⟩
      iexact H)

theorem at_barrier (Fr : sProp 𝕄) (c : Dev nD) {z : ℤ} (hz : z = ((3 : ℕ) : ℤ)) {s : Sem sig} (hs : s = barS)
    {α : Type} {Q : α → sProp 𝕄} {k : PUnit → Prog (TpuEff nD τ sig (Elt F) Λ₀ .tc) α}
    (hk : Inv σ m K iprop(Fr ∗ atPos ER (barC c) (0 + 1) ∅ 0) c 0 ⊢ wp frame (wpE (defs₀ (F := F)) 𝒱₀ (c : Thread nD τ) none) Set.univ (k ⟨⟩) Q) :
    Bar σ m K Fr c ∅ (owedE σ c script) ⊢ wp frame (wpE (defs₀ (F := F)) 𝒱₀ (c : Thread nD τ) none) Set.univ (.op (.semWait s z) k) Q := by
  subst hz hs
  unfold Bar
  unfold Inv St at hk
  rw [List.drop_zero] at hk
  iintro ⟨#HI, HF, ⟨%W, HO⟩, -, ⟨Hat, Hc⟩, HS, HR, HP⟩
  iapply (Rounds.wp_wait_rest_token 𝒱₀ ER (Rd σ m) (c : Thread nD τ) none (κ := K (c, none))
      (wpE_semWait_eq 𝒱₀ (c : Thread nD τ) none Set.univ) (Set.mem_univ _) () (O := owedE σ c script) (W := W) (R := 0) (m := 0) (T := ∅)
      (by rw [expect_bar])) $$ [Hc HO Hat]
  · isplitr; · iapply (records_inv σ m K (c, none)); iexact HI
    isplitl [Hc]; · iexact Hc
    isplitl [HO]; · iexact HO
    isplitr; · iapply (records_bar σ m K c); iexact HI
    iexact Hat
  iintro ⟨HO, Hat, -, Hpay⟩
  ihave Ht := (Entails.of_eq ((rest_bar σ m c).trans (targets_eq σ c))) $$ Hpay
  iapply hk
  isplitr; · iexact HI
  isplitl [HF Hat]; · isplitl [HF] <;> iassumption
  isplitl [HO]; · iexists _; iexact HO
  isplitl [HS Ht]
  · iapply (sends_of σ c)
    isplitl [HS] <;> iassumption
  isplitl [HR] <;> iassumption

end Walk

end Cert.MoveProof

end
-- ==== Proof.Body.lean ====
/-
# The kernel's body on a device

The body reads the table of destinations, signals the three devices that will send to it, waits for its own three units,
and then runs the list. It is followed once, at a symbolic device, part by part.
-/
module

public import proofs.«01_k».proof.Proof.Walk
public import proofs.«01_k».proof.Proof.Gen.KernelIdeal.Skeleton

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (σ : Equiv.Perm (Fin 4)) (m : (ℓ : Loc nD τ sig) → Buf (Elt F) ℓ) (K : Dev nD × KI → ℕ)

/-! ## The table -/

abbrev tM : Memref sig .tc .smem S4 .i32 := Memref.whole cc0_stg0_0
/-- The table's contents: word `y` names row `σ y`. -/
def tbl : (cc0_stg0_0 : Ref sig .tc).ty.Contents (Elt F) := fun i => word (σ (i 0))
def tPts (c : Dev nD) : sProp 𝕄 := ((c : Thread nD τ).loc cc0_stg0_0) ↦{fullShare} tbl (F := F) σ

abbrev rAt (off : Fin 1 → ℕ) (h : ∀ a, off a + S1.size a ≤ S4.size a) : Rect S4 := Rect.unit (s := S4) off S1.size h
theorem read_tbl (off : Fin 1 → ℕ) (h : ∀ a, off a + S1.size a ≤ S4.size a) (y : Fin 4) (hy : off 0 = y.val) :
    (tM.access (rAt off h) : View sig .tc _ _ _).read (Elt F) (tbl (F := F) σ) (Shape.Idx.first (s := S1) (numel1_S1.symm ▸ Nat.one_pos)) = word (σ y) := by
  show word (σ _) = word (σ y)
  refine congrArg (fun z => word (σ z)) (Fin.ext ?_)
  rw [← hy]
  rfl
theorem off1_row : ∀ c : Dev nD, k0_off1 c 0 = (row c).val := by decide +kernel

theorem words_nodup : [σ 0, σ 1, σ 2, σ 3].Nodup := by simp [σ.injective.eq_iff]

set_option maxHeartbeats 1600000 in
theorem part1_wp (c : Dev nD) (X : sProp 𝕄) :
    iprop(X ∗ tPts (F := F) σ c) ⊢ wp frame (wpE (defs₀ (F := F)) 𝒱₀ (c : Thread nD τ) none) Set.univ
      (k0_part1 (F := F) tM (Memref.isWhole_whole _) xM (Memref.isWhole_whole _) oM (Memref.isWhole_whole _) cc0_scratch0 cc0_scratch1)
      (fun b => iprop(⌜b.1 = c ∧ b.2.2.2.2.1 = word (σ (row c)) ∧ b.2.2.2.2.2.2.1 = word (σ 0) ∧ b.2.2.2.2.2.2.2.1 = word (σ 1)
        ∧ b.2.2.2.2.2.2.2.2.1 = word (σ 2) ∧ b.2.2.2.2.2.2.2.2.2.1 = word (σ 3)⌝ ∗ (X ∗ tPts (F := F) σ c))) := by
  have e10 := read_tbl (F := F) σ (k0_off1 c) (k0_off1_inb c) (row c) (off1_row c)
  have e11 := read_tbl (F := F) σ ![0] inb_S4_S1_0 0 rfl
  have e14 := read_tbl (F := F) σ ![1] inb_S4_S1_1 1 rfl
  have e17 := read_tbl (F := F) σ ![2] inb_S4_S1_2 2 rfl
  have e20 := read_tbl (F := F) σ ![3] inb_S4_S1_3 3 rfl
  have h2 := chk2_all c (σ (row c))
  have h1 := chk1_all (σ 0) (σ 1) (σ 2) (σ 3) (words_nodup σ) c
  rw [← e10] at h2
  rw [← e11, ← e14, ← e17, ← e20] at h1
  simp only [k0_part1_eq_skeleton]; unfold k0_part1_skel
  simp only [smemLoad, smemLoadElt, Prog.lift, Prog.bind_op, Prog.bind_ret, Prog.pure_eq_ret, wp_deviceId]
  unfold tPts
  iintro ⟨HX, Ht⟩
  iapply (wp_load_rect 𝒱₀ (c : Thread nD τ) none Set.univ (m := tM) (r := rAt (k0_off1 c) (k0_off1_inb c)) (Finset.subset_univ _)) $$ Ht; iintro Ht
  simp only [wp_assume_of _ _ _ _ (d := k0_chk2.dec c _) h2]
  iapply (wp_load_rect 𝒱₀ (c : Thread nD τ) none Set.univ (m := tM) (r := rAt ![0] inb_S4_S1_0) (Finset.subset_univ _)) $$ Ht; iintro Ht
  iapply (wp_load_rect 𝒱₀ (c : Thread nD τ) none Set.univ (m := tM) (r := rAt ![1] inb_S4_S1_1) (Finset.subset_univ _)) $$ Ht; iintro Ht
  iapply (wp_load_rect 𝒱₀ (c : Thread nD τ) none Set.univ (m := tM) (r := rAt ![2] inb_S4_S1_2) (Finset.subset_univ _)) $$ Ht; iintro Ht
  iapply (wp_load_rect 𝒱₀ (c : Thread nD τ) none Set.univ (m := tM) (r := rAt ![3] inb_S4_S1_3) (Finset.subset_univ _)) $$ Ht; iintro Ht
  simp only [wp_assume_of _ _ _ _ (d := k0_chk1.dec c _ _ _ _) h1]
  rw [wp_ret]; imodintro
  isplitr
  · ipureintro; exact ⟨rfl, e10, e11, e14, e17, e20⟩
  isplitl [HX] <;> iassumption

/-! ## The program's words for chunks and devices -/

theorem off3_at (c : Dev nD) (k : Fin 8) (w : BitVec 32) (h : w = BitVec.ofNat 32 (32 * k.val)) : k0_off3 c w = blkOff (part 8 c) k := h ▸ off3_eq c k
theorem off4_at (c : Dev nD) (t : Fin 9) (s : Fin 3) (k : Fin 8) (u w : BitVec 32) (ht : t.val = 1 + s.val) (hu : u = BitVec.ofNat 32 (1 + s.val)) (h : w = BitVec.ofNat 32 (32 * k.val)) :
    k0_off4 c u w = blkOff (part t.castSucc c) k := by
  subst hu h
  rw [off4_eq, show t.castSucc = ⟨1 + s.val, by omega⟩ from Fin.ext ht]
theorem off5_at (c : Dev nD) (t : Fin 9) (s : Fin 3) (k : Fin 8) (u w : BitVec 32) (ht : t.val = 5 + s.val) (hu : u = BitVec.ofNat 32 (1 + s.val)) (h : w = BitVec.ofNat 32 (32 * k.val)) :
    k0_off5 c u w = blkOff (part t.castSucc c) k := by
  subst hu h
  rw [off5_eq, show t.castSucc = ⟨5 + s.val, by omega⟩ from Fin.ext ht]
/-- The device the own part is sent to. -/
theorem dev_own {c : Dev nD} {v : BitVec 32} (hv : v = word (σ (row c))) {n : ℕ} (hn : n = k0_dev4 c v) (h : n < nD) : (⟨n, h⟩ : Dev nD) = tgt σ 8 c :=
  Fin.ext (by
    show n = (tgt σ 8 c).val
    rw [hn, hv, dev4_eq]; rfl)
theorem dev_up {c : Dev nD} (t : Fin 9) (ht : t ≠ 8 ∧ t.val < 4) {n : ℕ} (hn : n = k0_dev12 c) (h : n < nD) : (⟨n, h⟩ : Dev nD) = tgt σ t c :=
  Fin.ext (by
    show n = (tgt σ t c).val
    unfold tgt
    rw [if_neg ht.1, if_pos ht.2, hn, dev12_eq])
theorem dev_down {c : Dev nD} (t : Fin 9) (ht : t ≠ 8 ∧ ¬ t.val < 4) {n : ℕ} (hn : n = k0_dev13 c) (h : n < nD) : (⟨n, h⟩ : Dev nD) = tgt σ t c :=
  Fin.ext (by
    show n = (tgt σ t c).val
    unfold tgt
    rw [if_neg ht.1, if_neg ht.2, hn, dev13_eq])

theorem off3_on (c : Dev nD) (t : Fin 9) (k : Fin 8) (w : BitVec 32) (ht : shift t.castSucc = 0) (h : w = BitVec.ofNat 32 (32 * k.val)) :
    k0_off3 c w = blkOff (part t.castSucc c) k := by
  subst h
  rw [off3_eq]
  unfold part
  rw [ht]; rfl
theorem off2_on (c : Dev nD) (t : Fin 9) (k : Fin 8) (ht : shift t.castSucc = 0) (hk : k = 0) : k0_off2 c = blkOff (part t.castSucc c) k := by
  subst hk
  rw [off2_eq]
  unfold part
  rw [ht]; rfl

theorem part_ends {α : Type} {c : Dev nD} (A : sProp 𝕄) {a : α} :
    A ⊢ wp frame (wpE (defs₀ (F := F)) 𝒱₀ (c : Thread nD τ) none) Set.univ (.ret a) (fun _ => A) := by
  rw [wp_ret]
  iintro H
  imodintro
  iexact H

end Body

end Cert.MoveProof

end
-- ==== Proof.Parts.lean ====
/-
# The body followed from its first word to its last action

The parts before the first send are followed by hand; every later part is a stretch of the list, and one loop takes
them all: each action of the program is the next action of the list.
-/
module

public import proofs.«01_k».proof.Proof.Body
public import proofs.«01_k».proof.Proof.Gen.KernelIdeal.Skeleton

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (σ : Equiv.Perm (Fin 4)) (m : (ℓ : Loc nD τ sig) → Buf (Elt F) ℓ) (K : Dev nD × KI → ℕ)

/-! ## The parts up to the first send -/

theorem bar_out (R T : sProp 𝕄) (c : Dev nD) (ds : Finset (Fin 3)) (O : CellTallies nD τ sig Unit) :
    Bar σ m K iprop(R ∗ T) c ds O ⊢ iprop(Bar σ m K R c ds O ∗ T) := by
  unfold Bar
  iintro ⟨H1, ⟨HR, HT⟩, H2⟩
  isplitr [HT]
  · isplitl [H1]; · iexact H1
    isplitl [HR] <;> iassumption
  · iexact HT
theorem bar_in (R T : sProp 𝕄) (c : Dev nD) (ds : Finset (Fin 3)) (O : CellTallies nD τ sig Unit) :
    iprop(Bar σ m K R c ds O ∗ T) ⊢ Bar σ m K iprop(R ∗ T) c ds O := by
  unfold Bar
  iintro ⟨⟨H1, HR, H2⟩, HT⟩
  isplitl [H1]; · iexact H1
  isplitl [HR HT]; · isplitl [HR] <;> iassumption
  iexact H2

theorem part1_bar (R : sProp 𝕄) (c : Dev nD) (ds : Finset (Fin 3)) (O : CellTallies nD τ sig Unit) :
    Bar σ m K iprop(R ∗ tPts (F := F) σ c) c ds O ⊢ wp frame (wpE (defs₀ (F := F)) 𝒱₀ (c : Thread nD τ) none) Set.univ
      (k0_part1 (F := F) tM (Memref.isWhole_whole _) xM (Memref.isWhole_whole _) oM (Memref.isWhole_whole _) cc0_scratch0 cc0_scratch1)
      (fun b => iprop(⌜b.1 = c ∧ b.2.2.2.2.1 = word (σ (row c)) ∧ b.2.2.2.2.2.2.1 = word (σ 0) ∧ b.2.2.2.2.2.2.2.1 = word (σ 1)
        ∧ b.2.2.2.2.2.2.2.2.1 = word (σ 2) ∧ b.2.2.2.2.2.2.2.2.2.1 = word (σ 3)⌝ ∗ Bar σ m K iprop(R ∗ tPts (F := F) σ c) c ds O)) :=
  (bar_out σ m K R _ c ds O).trans ((part1_wp σ c _).trans (wp_mono _ _ _ fun b => by
    iintro ⟨%h, H⟩
    isplitr; · ipureintro; exact h
    iapply (bar_in σ m K R (tPts (F := F) σ c) c ds O)
    iexact H))

theorem part2_wp (Fr : sProp 𝕄) (c : Dev nD) (v2 v8 : BitVec 32) (v11 v14 v17 v20 : Elt F .i32) (h11 : v11 = word (σ 0)) (h14 : v14 = word (σ 1)) (h17 : v17 = word (σ 2))
    (h20 : v20 = word (σ 3)) (hw : k0_chk1 c v11 v14 v17 v20) (v22 v25 v28 v29 : BitVec 32) (v30 v31 v32 : BitVec 1) :
    Bar σ m K Fr c Finset.univ (O₀ σ c) ⊢ wp frame (wpE (defs₀ (F := F)) 𝒱₀ (c : Thread nD τ) none) Set.univ
      (k0_part2 (F := F) tM (Memref.isWhole_whole _) xM (Memref.isWhole_whole _) oM (Memref.isWhole_whole _) cc0_scratch0 cc0_scratch1 c v2 v8 v11 v14 v17 v20 hw v22 v25 v28 v29 v30 v31 v32)
      (fun b => iprop(⌜b.2.2.2.2.1 = SemArray.scalar (sig.barrier 0 rfl)⌝ ∗ Bar σ m K Fr c (Finset.univ.erase 0) (O₁ σ c))) := by
  simp only [k0_part2_eq_skeleton, k0_part2_skel, semSignalWord, Prog.lift, Prog.bind_op, Prog.bind_ret, Prog.pure_eq_ret]
  refine at_signal σ m K Fr c 0 (Finset.mem_univ _) (O₁ σ c) ?_ ?_ rfl ?_
  · subst h11 h14 h17 h20
    exact Fin.ext (dev1_eq σ c)
  · rfl
  rw [wp_ret]
  iintro H
  imodintro
  isplitr; · ipureintro; rfl
  iexact H

theorem part3_wp (Fr : sProp 𝕄) (c : Dev nD) (v2 v5 v8 : BitVec 32) (v10 : Elt F .i32) (hv : v10 = word (σ (row c))) (hw : k0_chk2 c v10) (v25 v38 v41 v57 : BitVec 32)
    (v58 : Sems sig S_) (h58 : v58 = SemArray.scalar (sig.barrier 0 rfl)) (v66 : BitVec 32) :
    Bar σ m K Fr c (Finset.univ.erase 0) (O₁ σ c) ⊢ wp frame (wpE (defs₀ (F := F)) 𝒱₀ (c : Thread nD τ) none) Set.univ
      (k0_part3 (F := F) tM (Memref.isWhole_whole _) xM (Memref.isWhole_whole _) oM (Memref.isWhole_whole _) cc0_scratch0 cc0_scratch1 c v2 v5 v8 v10 hw v25 v38 v41 v57 v58 v66)
      (fun _ => Inv σ m K iprop(Fr ∗ atPos ER (barC c) (0 + 1) ∅ 0) c 1) := by
  subst h58
  simp only [k0_part3_eq_skeleton, k0_part3_skel, semSignalWord, semWaitWord, Prog.lift, Prog.bind_op, Prog.bind_ret, Prog.pure_eq_ret]
  refine at_signal σ m K Fr c 1 (by decide) (O₂ σ c) (Fin.ext (dev2_eq c)) rfl rfl ?_
  refine at_signal σ m K Fr c 2 (by decide) (owedE σ c script) (Fin.ext (dev3_eq c)) rfl rfl ?_
  rw [show ((Finset.univ.erase (0 : Fin 3)).erase 1).erase 2 = ∅ from by decide]
  refine at_barrier σ m K Fr c rfl rfl ?_
  repeat first
    | ((with_reducible refine at_recv σ m K _ _ _ _ (by with_unfolding_all exact rfl) ?_ ?_ ?_)
       · exact rfl
       · exact rfl)
    | ((with_reducible refine at_on σ m K _ _ _ _ (by with_unfolding_all exact rfl) ?_ ?_ ?_ ?_ ?_ ?_)
       · decide
       · first
           | (with_reducible refine off3_on _ _ _ _ ?_ ?_) <;> rfl
           | (with_reducible refine off2_on _ _ _ ?_ ?_) <;> rfl
           | (with_reducible refine off4_at _ _ 0 _ _ _ ?_ ?_ ?_) <;> rfl
           | (with_reducible refine off4_at _ _ 1 _ _ _ ?_ ?_ ?_) <;> rfl
           | (with_reducible refine off4_at _ _ 2 _ _ _ ?_ ?_ ?_) <;> rfl
           | (with_reducible refine off5_at _ _ 0 _ _ _ ?_ ?_ ?_) <;> rfl
           | (with_reducible refine off5_at _ _ 1 _ _ _ ?_ ?_ ?_) <;> rfl
           | (with_reducible refine off5_at _ _ 2 _ _ _ ?_ ?_ ?_) <;> rfl
       · first
           | (refine dev_up σ _ ?_ ?_ _
              · decide
              · rfl)
           | (refine dev_down σ _ ?_ ?_ _
              · decide
              · rfl)
       · exact rfl
       · exact rfl)
    | ((with_reducible refine at_own σ m K _ _ _ _ (by with_unfolding_all exact rfl) ?_ ?_ ?_ ?_ ?_)
       · first | with_reducible exact off2_eq _ | exact off3_at _ _ _ rfl
       · exact dev_own σ hv rfl _
       · exact rfl
       · exact rfl)
    | ((with_reducible refine at_done σ m K _ _ _ _ (by with_unfolding_all exact rfl) ?_ ?_ ?_)
       · exact rfl
       · exact rfl)
  with_reducible exact part_ends (F := F) _

/-! ## The two halves of the body -/

set_option maxRecDepth 65536 in
set_option maxHeartbeats 40000000 in
theorem part87_wp (R : sProp 𝕄) (c : Dev nD) :
    Bar σ m K iprop(R ∗ tPts (F := F) σ c) c Finset.univ (O₀ σ c) ⊢ wp frame (wpE (defs₀ (F := F)) 𝒱₀ (c : Thread nD τ) none) Set.univ
      (k0_part87 (F := F) tM (Memref.isWhole_whole _) xM (Memref.isWhole_whole _) oM (Memref.isWhole_whole _) cc0_scratch0 cc0_scratch1)
      (fun b => iprop(⌜b.1 = c⌝ ∗ Inv σ m K iprop((R ∗ tPts (F := F) σ c) ∗ atPos ER (barC c) (0 + 1) ∅ 0) c 106)) := by
  simp only [k0_part87_eq_skeleton]; unfold k0_part87_skel
  refine then_such _ (part1_bar σ m K R c Finset.univ (O₀ σ c)) ?_
  rintro ⟨d0, v2, v5, v8, v10, hw2, v11, v14, v17, v20, hw1, v22, v25, v28, v29, v30, v31, v32⟩ ⟨h0, hv, h11, h14, h17, h20⟩
  dsimp only at h0 hv h11 h14 h17 h20
  subst h0
  dsimp only
  refine then_such _ (part2_wp σ m K _ _ _ _ _ _ _ _ h11 h14 h17 h20 _ _ _ _ _ _ _ _) ?_
  rintro ⟨v38, v41, v54, v57, v58, v66⟩ h58
  dsimp only at h58
  dsimp only
  refine then_any (part3_wp σ m K _ _ _ _ _ _ hv _ _ _ _ _ _ h58 _) ?_
  rintro ⟨v95, w95⟩
  dsimp only
  repeat' (
    apply then_any
    · simp only [k0_part4_eq_skeleton, k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton, k0_part11_skel,
        k0_part12_eq_skeleton, k0_part12_skel, k0_part13_eq_skeleton, k0_part13_skel, k0_part14_eq_skeleton, k0_part14_skel, k0_part15_eq_skeleton,
        k0_part15_skel, k0_part16_eq_skeleton, k0_part16_skel, k0_part17_eq_skeleton, k0_part17_skel, k0_part18_eq_skeleton, k0_part18_skel,
        k0_part19_eq_skeleton, k0_part19_skel, k0_part20_eq_skeleton, k0_part20_skel, k0_part21_eq_skeleton, k0_part21_skel, k0_part22_eq_skeleton,
        k0_part22_skel, k0_part23_eq_skeleton, k0_part23_skel, k0_part24_eq_skeleton, k0_part24_skel, k0_part25_eq_skeleton, k0_part25_skel,
        k0_part26_eq_skeleton, k0_part26_skel, k0_part27_eq_skeleton, k0_part27_skel, k0_part28_eq_skeleton, k0_part28_skel, k0_part29_eq_skeleton,
        k0_part29_skel, k0_part30_eq_skeleton, k0_part30_skel, k0_part31_eq_skeleton, k0_part31_skel, k0_part32_eq_skeleton, k0_part32_skel,
        k0_part33_eq_skeleton, k0_part33_skel, k0_part34_eq_skeleton, k0_part34_skel, k0_part35_eq_skeleton, k0_part35_skel, k0_part36_eq_skeleton,
        k0_part36_skel, k0_part37_eq_skeleton, k0_part37_skel, k0_part38_eq_skeleton, k0_part38_skel, k0_part39_eq_skeleton, k0_part39_skel,
        k0_part40_eq_skeleton, k0_part40_skel, k0_part41_eq_skeleton, k0_part41_skel, k0_part42_eq_skeleton, k0_part42_skel, k0_part43_eq_skeleton,
        k0_part43_skel, k0_part44_eq_skeleton, k0_part44_skel, k0_part45_eq_skeleton, k0_part45_skel, k0_part46_eq_skeleton, k0_part46_skel,
        k0_part47_eq_skeleton, k0_part47_skel, k0_part48_eq_skeleton, k0_part48_skel, k0_part49_eq_skeleton, k0_part49_skel, k0_part50_eq_skeleton,
        k0_part50_skel, k0_part51_eq_skeleton, k0_part51_skel, k0_part52_eq_skeleton, k0_part52_skel, k0_part53_eq_skeleton, k0_part53_skel,
        k0_part54_eq_skeleton, k0_part54_skel, k0_part55_eq_skeleton, k0_part55_skel, k0_part56_eq_skeleton, k0_part56_skel, k0_part57_eq_skeleton,
        k0_part57_skel, k0_part58_eq_skeleton, k0_part58_skel, k0_part59_eq_skeleton, k0_part59_skel, k0_part60_eq_skeleton, k0_part60_skel,
        Prog.lift, Prog.bind_op, Prog.bind_ret, Prog.pure_eq_ret]
      repeat first
        | ((with_reducible refine at_recv σ m K _ _ _ _ (by with_unfolding_all exact rfl) ?_ ?_ ?_)
           · exact rfl
           · exact rfl)
        | ((with_reducible refine at_on σ m K _ _ _ _ (by with_unfolding_all exact rfl) ?_ ?_ ?_ ?_ ?_ ?_)
           · decide
           · first
               | (with_reducible refine off3_on _ _ _ _ ?_ ?_) <;> rfl
               | (with_reducible refine off2_on _ _ _ ?_ ?_) <;> rfl
               | (with_reducible refine off4_at _ _ 0 _ _ _ ?_ ?_ ?_) <;> rfl
               | (with_reducible refine off4_at _ _ 1 _ _ _ ?_ ?_ ?_) <;> rfl
               | (with_reducible refine off4_at _ _ 2 _ _ _ ?_ ?_ ?_) <;> rfl
               | (with_reducible refine off5_at _ _ 0 _ _ _ ?_ ?_ ?_) <;> rfl
               | (with_reducible refine off5_at _ _ 1 _ _ _ ?_ ?_ ?_) <;> rfl
               | (with_reducible refine off5_at _ _ 2 _ _ _ ?_ ?_ ?_) <;> rfl
           · first
               | (refine dev_up σ _ ?_ ?_ _
                  · decide
                  · rfl)
               | (refine dev_down σ _ ?_ ?_ _
                  · decide
                  · rfl)
           · exact rfl
           · exact rfl)
        | ((with_reducible refine at_own σ m K _ _ _ _ (by with_unfolding_all exact rfl) ?_ ?_ ?_ ?_ ?_)
           · first | with_reducible exact off2_eq _ | exact off3_at _ _ _ rfl
           · exact dev_own σ hv rfl _
           · exact rfl
           · exact rfl)
        | ((with_reducible refine at_done σ m K _ _ _ _ (by with_unfolding_all exact rfl) ?_ ?_ ?_)
           · exact rfl
           · exact rfl)
      with_reducible exact part_ends (F := F) _
    intro _
    try dsimp only)
  rw [Prog.pure_eq_ret, wp_ret]
  iintro H
  imodintro
  isplitr; · ipureintro; rfl
  iexact H

set_option maxRecDepth 65536 in
set_option maxHeartbeats 40000000 in
theorem part88_wp (Fr : sProp 𝕄) (c : Dev nD) (v5 v25 v41 v54 v57 v1587 v1598 v1752 : BitVec 32) :
    Inv σ m K Fr c 106 ⊢ wp frame (wpE (defs₀ (F := F)) 𝒱₀ (c : Thread nD τ) none) Set.univ
      (k0_part88 (F := F) tM (Memref.isWhole_whole _) xM (Memref.isWhole_whole _) oM (Memref.isWhole_whole _) cc0_scratch0 cc0_scratch1 c v5 v25 v41 v54 v57 v1587 v1598 v1752)
      (fun _ => Inv σ m K Fr c 192) := by
  simp only [k0_part88_eq_skeleton]; unfold k0_part88_skel
  repeat' (
    apply then_any
    · simp only [k0_part61_eq_skeleton, k0_part61_skel, k0_part62_eq_skeleton, k0_part62_skel, k0_part63_eq_skeleton, k0_part63_skel, k0_part64_eq_skeleton,
        k0_part64_skel, k0_part65_eq_skeleton, k0_part65_skel, k0_part66_eq_skeleton, k0_part66_skel, k0_part67_eq_skeleton, k0_part67_skel,
        k0_part68_eq_skeleton, k0_part68_skel, k0_part69_eq_skeleton, k0_part69_skel, k0_part70_eq_skeleton, k0_part70_skel, k0_part71_eq_skeleton,
        k0_part71_skel, k0_part72_eq_skeleton, k0_part72_skel, k0_part73_eq_skeleton, k0_part73_skel, k0_part74_eq_skeleton, k0_part74_skel,
        k0_part75_eq_skeleton, k0_part75_skel, k0_part76_eq_skeleton, k0_part76_skel, k0_part77_eq_skeleton, k0_part77_skel, k0_part78_eq_skeleton,
        k0_part78_skel, k0_part79_eq_skeleton, k0_part79_skel, k0_part80_eq_skeleton, k0_part80_skel, k0_part81_eq_skeleton, k0_part81_skel,
        k0_part82_eq_skeleton, k0_part82_skel, k0_part83_eq_skeleton, k0_part83_skel, k0_part84_eq_skeleton, k0_part84_skel, k0_part85_eq_skeleton,
        k0_part85_skel, k0_part86_eq_skeleton, k0_part86_skel,
        Prog.lift, Prog.bind_op, Prog.bind_ret, Prog.pure_eq_ret]
      repeat first
        | ((with_reducible refine at_recv σ m K _ _ _ _ (by with_unfolding_all exact rfl) ?_ ?_ ?_)
           · exact rfl
           · exact rfl)
        | ((with_reducible refine at_on σ m K _ _ _ _ (by with_unfolding_all exact rfl) ?_ ?_ ?_ ?_ ?_ ?_)
           · decide
           · first
               | (with_reducible refine off3_on _ _ _ _ ?_ ?_) <;> rfl
               | (with_reducible refine off2_on _ _ _ ?_ ?_) <;> rfl
               | (with_reducible refine off4_at _ _ 0 _ _ _ ?_ ?_ ?_) <;> rfl
               | (with_reducible refine off4_at _ _ 1 _ _ _ ?_ ?_ ?_) <;> rfl
               | (with_reducible refine off4_at _ _ 2 _ _ _ ?_ ?_ ?_) <;> rfl
               | (with_reducible refine off5_at _ _ 0 _ _ _ ?_ ?_ ?_) <;> rfl
               | (with_reducible refine off5_at _ _ 1 _ _ _ ?_ ?_ ?_) <;> rfl
               | (with_reducible refine off5_at _ _ 2 _ _ _ ?_ ?_ ?_) <;> rfl
           · first
               | (refine dev_up σ _ ?_ ?_ _
                  · decide
                  · rfl)
               | (refine dev_down σ _ ?_ ?_ _
                  · decide
                  · rfl)
           · exact rfl
           · exact rfl)
        | ((with_reducible refine at_own σ m K _ _ _ _ (by with_unfolding_all exact rfl) ?_ ?_ ?_ ?_ ?_)
           · first | with_reducible exact off2_eq _ | exact off3_at _ _ _ rfl
           · exact dev_own σ hv rfl _
           · exact rfl
           · exact rfl)
        | ((with_reducible refine at_done σ m K _ _ _ _ (by with_unfolding_all exact rfl) ?_ ?_ ?_)
           · exact rfl
           · exact rfl)
      with_reducible exact part_ends (F := F) _
    intro _
    try dsimp only)
  simp only [Prog.lift, Prog.bind_op, Prog.bind_ret, Prog.pure_eq_ret]
  repeat first
    | ((with_reducible refine at_recv σ m K _ _ _ _ (by with_unfolding_all exact rfl) ?_ ?_ ?_)
       · exact rfl
       · exact rfl)
    | ((with_reducible refine at_on σ m K _ _ _ _ (by with_unfolding_all exact rfl) ?_ ?_ ?_ ?_ ?_ ?_)
       · decide
       · first
           | (with_reducible refine off3_on _ _ _ _ ?_ ?_) <;> rfl
           | (with_reducible refine off2_on _ _ _ ?_ ?_) <;> rfl
           | (with_reducible refine off4_at _ _ 0 _ _ _ ?_ ?_ ?_) <;> rfl
           | (with_reducible refine off4_at _ _ 1 _ _ _ ?_ ?_ ?_) <;> rfl
           | (with_reducible refine off4_at _ _ 2 _ _ _ ?_ ?_ ?_) <;> rfl
           | (with_reducible refine off5_at _ _ 0 _ _ _ ?_ ?_ ?_) <;> rfl
           | (with_reducible refine off5_at _ _ 1 _ _ _ ?_ ?_ ?_) <;> rfl
           | (with_reducible refine off5_at _ _ 2 _ _ _ ?_ ?_ ?_) <;> rfl
       · first
           | (refine dev_up σ _ ?_ ?_ _
              · decide
              · rfl)
           | (refine dev_down σ _ ?_ ?_ _
              · decide
              · rfl)
       · exact rfl
       · exact rfl)
    | ((with_reducible refine at_own σ m K _ _ _ _ (by with_unfolding_all exact rfl) ?_ ?_ ?_ ?_ ?_)
       · first | with_reducible exact off2_eq _ | exact off3_at _ _ _ rfl
       · exact dev_own σ hv rfl _
       · exact rfl
       · exact rfl)
    | ((with_reducible refine at_done σ m K _ _ _ _ (by with_unfolding_all exact rfl) ?_ ?_ ?_)
       · exact rfl
       · exact rfl)
  with_reducible exact part_ends (F := F) _

set_option maxRecDepth 65536 in
theorem body_wp (R : sProp 𝕄) (c : Dev nD) :
    Bar σ m K iprop(R ∗ tPts (F := F) σ c) c Finset.univ (O₀ σ c) ⊢ wp frame (wpE (defs₀ (F := F)) 𝒱₀ (c : Thread nD τ) none) Set.univ
      (cc0_body (F := F) tM (Memref.isWhole_whole _) xM (Memref.isWhole_whole _) oM (Memref.isWhole_whole _) cc0_scratch0 cc0_scratch1)
      (fun _ => Inv σ m K iprop((R ∗ tPts (F := F) σ c) ∗ atPos ER (barC c) (0 + 1) ∅ 0) c 192) := by
  simp only [cc0_body_eq_skeleton]; unfold cc0_body_skel
  refine then_such _ (part87_wp σ m K R c) ?_
  intro b hb
  obtain ⟨d0, b⟩ := b
  dsimp only at hb
  subst hb
  refine then_any (part88_wp σ m K _ _ _ _ _ _ _ _ _ _) ?_
  intro _
  rw [Prog.pure_eq_ret]
  with_reducible exact part_ends (F := F) _

end Body

end Cert.MoveProof

end
-- ==== Proof.Finish.lean ====
/-
# The two ends of a device's list

Before its first signal a device cuts its result into the chunks the three devices that write to it will write, and its
block of `x` into the chunks of its own part and the rest. After its last action every chunk is here again, and every
counter is back at zero.
-/
module

public import proofs.«01_k».proof.Proof.Parts

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ends
variable (σ : Equiv.Perm (Fin 4)) (m : (ℓ : Loc nD τ sig) → Buf (Elt F) ℓ) (K : Dev nD × KI → ℕ)

/-! ## The whole buffers -/

def oWhole (c : Dev nD) (f : S1x2048x1024.Idx → Elt F .f32) : sProp 𝕄 := ((c : Thread nD τ).loc cc0_stg1_0) ↦{fullShare} f
def xWhole (c : Dev nD) : sProp 𝕄 := ((c : Thread nD τ).loc main_arg0) ↦{fullShare} xF m c

theorem pts_cover {ℓ : Loc nD τ sig} {q : PosShare TreeShare} {f : Buf (Elt F) ℓ} {J : Type} [DecidableEq J] (S : Finset J) (B : J → Finset (Idx ℓ))
    (hd : ∀ j ∈ S, ∀ j' ∈ S, j ≠ j' → Disjoint (B j) (B j')) (A : Finset (Idx ℓ)) (hA : ∀ i, i ∈ A ↔ ∃ j ∈ S, i ∈ B j) :
    (ℓ ↦[A]{q} f : sProp 𝕄) = bigSep S fun j => ℓ ↦[B j]{q} f := by
  rw [← pointsTo_biUnion S B hd]
  congr 1
  ext i
  rw [hA, Finset.mem_biUnion]

/-- A result cut by a family of chunks that names each once. -/
theorem oWhole_split {J : Type} [DecidableEq J] (S : Finset J) (φ : J → Fin 8 × Fin 8) (hi : ∀ j ∈ S, ∀ j' ∈ S, φ j = φ j' → j = j')
    (h : ∀ pk, ∃ j ∈ S, φ j = pk) (c : Dev nD) (f : S1x2048x1024.Idx → Elt F .f32) :
    (oWhole c f : sProp 𝕄) = bigSep S fun j => oPts c (φ j) fullShare f := by
  unfold oWhole oPts
  exact pts_cover (ℓ := (c : Thread nD τ).loc cc0_stg1_0) S (fun j => chunk (φ j)) (fun j hj j' hj' hne => chunk_disjoint fun he => hne (hi j hj j' hj' he))
    Finset.univ fun (i : S1x2048x1024.Idx) => ⟨fun _ => Finset.mem_biUnion.mp ((chunks_cover S φ h).symm ▸ Finset.mem_univ i), fun _ => Finset.mem_univ i⟩

/-- The chunks of a device's own part, and what else there is of its block of `x`. -/
def ownX (c : Dev nD) : Finset S1x2048x1024.Idx := (Finset.univ : Finset (Fin 8)).biUnion fun k => chunk (part 8 c, k)
def xRest (c : Dev nD) : sProp 𝕄 := ((c : Thread nD τ).loc main_arg0) ↦[Finset.univ \ ownX c]{fullShare} xF m c
theorem xWhole_split (c : Dev nD) : (xWhole m c : sProp 𝕄) ⊣⊢ iprop((bigSep Finset.univ fun k : Fin 8 => xPts c (part 8 c, k) (xF m c)) ∗ xRest m c) := by
  unfold xWhole xRest xPts
  rw [show (bigSep Finset.univ fun k : Fin 8 => (((c : Thread nD τ).loc main_arg0) ↦[chunk (part 8 c, k)]{fullShare} xF m c : sProp 𝕄))
      = ((c : Thread nD τ).loc main_arg0) ↦[ownX c]{fullShare} xF m c from
    (pts_cover (ℓ := (c : Thread nD τ).loc main_arg0) Finset.univ (fun k : Fin 8 => chunk (part 8 c, k)) (fun k _ k' _ hne => chunk_disjoint fun he => hne (congrArg Prod.snd he))
      (ownX c) fun (i : S1x2048x1024.Idx) => Finset.mem_biUnion).symm]
  exact pointsTo_split_subset (Finset.subset_univ _)

/-! ## Before the first signal -/

theorem barTo_way (c : Dev nD) (t : Fin 9) : barTo σ c (way t) = snd σ t c := by
  unfold way snd
  split
  · next h => subst h; rfl
  · split <;> rfl
theorem lands_inj : ∀ (r : Fin 8) (e e' : E), used e = true → used e' = true → (r + shift (next e.1), e.2) = (r + shift (next e'.1), e'.2) → e = e' := by
  decide +kernel
theorem lands_all : ∀ (r : Fin 8) (pk : Fin 8 × Fin 8), ∃ e : E, used e = true ∧ (r + shift (next e.1), e.2) = pk := by decide +kernel

theorem targets_start (c : Dev nD) (f : S1x2048x1024.Idx → Elt F .f32) : oWhole c f ⊢ bigSep Finset.univ fun d : Fin 3 => barPay (F := F) σ (barTo σ c d) d := by
  rw [oWhole_split (Finset.univ.biUnion usedBy) (fun e : E => (part (next e.1) c, e.2))
    (fun e he e' he' => by
      simp only [usedBy, Finset.mem_biUnion, Finset.mem_univ, true_and, Finset.mem_filter] at he he'
      exact lands_inj (ring c) e e' he.choose_spec.1 he'.choose_spec.1)
    (fun pk => by
      obtain ⟨e, hu, h⟩ := lands_all (ring c) pk
      exact ⟨e, by simp [usedBy, hu], h⟩),
    bigSep_biUnion_eq _ _ _ fun d _ d' _ hne => Finset.disjoint_left.mpr fun e he he' =>
      hne ((Finset.mem_filter.mp he).2.2.symm.trans (Finset.mem_filter.mp he').2.2)]
  refine bigSep_mono fun d _ => ?_
  unfold barPay
  refine bigSep_mono fun e he => ?_
  obtain ⟨-, rfl⟩ := (Finset.mem_filter.mp he).2
  unfold target
  rw [barTo_way, tgt_snd, ← part_next σ e.1 (snd σ e.1 c), tgt_snd]
  show iprop(oPts c (part (next e.1) c, e.2) fullShare f) ⊢ iprop(∃ f, oPts (F := F) c (part (next e.1) c, e.2) fullShare f)
  iintro H
  iexists f
  iexact H

theorem start_piece : ∀ p : P, (here script p = true ∧ away script p = false) ↔ p.1 = 8 := by decide +kernel
theorem pieces_start (c : Dev nD) : (bigSep Finset.univ fun k : Fin 8 => xPts c (part 8 c, k) (xF m c) : sProp 𝕄) ⊢ bigSep Finset.univ (piecePart σ m c script) := by
  have h : bigSep Finset.univ (piecePart σ m c script) = (bigSep Finset.univ fun t : Fin 10 =>
      if t = 8 then bigSep Finset.univ fun k : Fin 8 => xPts c (part 8 c, k) (xF m c) else iprop(emp) : sProp 𝕄) := by
    rw [bigSep_univ_prod]
    refine bigSep_congr fun t _ => ?_
    unfold piecePart pieceC
    by_cases ht : t = 8
    · rw [if_pos ht]
      exact bigSep_congr fun k _ => by rw [if_pos ((start_piece (t, k)).mpr ht), if_pos ht]
    · rw [if_neg ht]
      exact (bigSep_congr fun k _ => if_neg fun h => ht ((start_piece (t, k)).mp h)).trans (bigSep_emp_const _)
  rw [h, bigSep_univ_at _ (8 : Fin 10), if_pos rfl, show (bigSep (Finset.univ.erase (8 : Fin 10)) fun t : Fin 10 =>
      if t = 8 then bigSep Finset.univ fun k : Fin 8 => xPts c (part 8 c, k) (xF m c) else iprop(emp) : sProp 𝕄) = iprop(emp) from
    (bigSep_congr fun t ht => if_neg (Finset.ne_of_mem_erase ht)).trans (bigSep_emp_const _)]
  iintro H
  isplitl [H]; · iexact H
  iempintro

/-! ## After the last action -/

theorem send_close (c : Dev nD) (e : E) : iprop(records σ m K ∗ sendPart (F := F) σ c [] e) ⊢ |={Set.univ}=> semVal (xC false c e) 0 := by
  unfold sendPart
  by_cases h : used e = true
  · rw [if_pos h, if_pos List.not_mem_nil]
    exact (sep_mono_left (records_inv σ m K (c, some (false, e)))).trans (cell_close ER (Rd σ m) (Set.mem_univ _) (fun h => h) (R := 0 + 1) (duties_later σ m _))
  · rw [if_neg h]
    exact (sep_mono_left (records_inv σ m K (c, some (false, e)))).trans (cell_close ER (Rd σ m) (Set.mem_univ _) (fun h => h) (R := 0) fun r _ => duties_unused σ m false c h r)
theorem recv_close (c : Dev nD) (e : E) : iprop(records σ m K ∗ recvPart (F := F) c [] e) ⊢ |={Set.univ}=> semVal (xC true c e) 0 := by
  unfold recvPart
  by_cases h : used e = true
  · rw [if_pos h, if_pos List.not_mem_nil]
    exact (sep_mono_left (records_inv σ m K (c, some (true, e)))).trans (cell_close ER (Rd σ m) (Set.mem_univ _) (fun h => h) (R := 0 + 1) (duties_later σ m _))
  · rw [if_neg h]
    exact (sep_mono_left (records_inv σ m K (c, some (true, e)))).trans (cell_close ER (Rd σ m) (Set.mem_univ _) (fun h => h) (R := 0) fun r _ => duties_unused σ m true c h r)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem end_piece : ∀ p : P, here [] p = true ∧ away [] p = false := by decide +kernel

def full (c : Dev nD) (t : Fin 10) : sProp 𝕄 := bigSep Finset.univ fun k : Fin 8 => oPts c (part t c, k) fullShare (outF σ m c)
theorem both_halves (c : Dev nD) :
    iprop((bigSep Finset.univ fun k : Fin 8 => oPts c (part 0 c, k) fullShare.left (outF σ m c)) ∗ (bigSep Finset.univ fun k : Fin 8 => oPts c (part 4 c, k) fullShare.right (outF σ m c)))
      ⊢ full σ m c 0 := by
  unfold full
  rw [← bigSep_sep']
  refine bigSep_mono fun k _ => ?_
  rw [show part 4 c = part 0 c from rfl]
  unfold oPts
  exact (pointsTo_share (PosShare.mem_left_op_right fullShare)).2

/-- The pieces that make up the result: of every stage but the second sending of the own row's part, and the block of `x`. -/
def stages : Fin 8 → Fin 10 := ![0, 1, 2, 3, 5, 6, 7, 9]
theorem ends_inj : ∀ (r : Fin 8) (j j' : Fin 8 × Fin 8), (r + shift (stages j.1), j.2) = (r + shift (stages j'.1), j'.2) → j = j' := by decide +kernel
theorem ends_all : ∀ (r : Fin 8) (pk : Fin 8 × Fin 8), ∃ j : Fin 8 × Fin 8, (r + shift (stages j.1), j.2) = pk := by decide +kernel

theorem pieces_end (c : Dev nD) : bigSep Finset.univ (piecePart σ m c [])
    ⊢ iprop(oWhole c (outF σ m c) ∗ bigSep Finset.univ fun k : Fin 8 => xPts c (part 8 c, k) (xF m c)) := by
  have hw : (oWhole c (outF σ m c) : sProp 𝕄) = iprop(full σ m c 0 ∗ full σ m c 1 ∗ full σ m c 2 ∗ full σ m c 3 ∗ full σ m c 5 ∗ full σ m c 6 ∗ full σ m c 7 ∗ full σ m c 9) := by
    rw [oWhole_split Finset.univ (fun j : Fin 8 × Fin 8 => (part (stages j.1) c, j.2)) (fun j _ j' _ => ends_inj (ring c) j j')
      (fun pk => (ends_all (ring c) pk).imp fun j h => ⟨Finset.mem_univ _, h⟩), bigSep_univ_prod, bigSep_univ_eq_bigSepL [0, 1, 2, 3, 4, 5, 6, 7] (by decide) (by decide)]
    rfl
  have hp : bigSep Finset.univ (piecePart σ m c []) = (iprop((bigSep Finset.univ fun k : Fin 8 => oPts c (part 0 c, k) fullShare.left (outF σ m c))
      ∗ full σ m c 1 ∗ full σ m c 2 ∗ full σ m c 3 ∗ (bigSep Finset.univ fun k : Fin 8 => oPts c (part 4 c, k) fullShare.right (outF σ m c))
      ∗ full σ m c 5 ∗ full σ m c 6 ∗ full σ m c 7 ∗ (bigSep Finset.univ fun k : Fin 8 => xPts c (part 8 c, k) (xF m c)) ∗ full σ m c 9) : sProp 𝕄) := by
    rw [bigSep_congr (Ψ := pieceC σ m c) fun p _ => show piecePart σ m c [] p = _ from if_pos (end_piece p), bigSep_univ_prod, bigSep_univ_eq_bigSepL [0, 1, 2, 3, 4, 5, 6, 7, 8, 9] (by decide) (by decide)]
    rfl
  rw [hw, hp]
  iintro ⟨H0, H1, H2, H3, H4, H5, H6, H7, H8, H9⟩
  isplitr [H8]
  · isplitl [H0 H4]
    · iapply (both_halves σ m c); isplitl [H0] <;> iassumption
    isplitl [H1]; · iexact H1
    isplitl [H2]; · iexact H2
    isplitl [H3]; · iexact H3
    isplitl [H5]; · iexact H5
    isplitl [H6]; · iexact H6
    isplitl [H7] <;> iassumption
  · iexact H8

theorem finish (c : Dev nD) (X : sProp 𝕄) : Inv σ m K iprop((xRest m c ∗ X) ∗ atPos ER (barC c) (0 + 1) ∅ 0) c 192
    ⊢ |={Set.univ}=> iprop(X ∗ xWhole m c ∗ oWhole c (outF σ m c) ∗ (∃ W, owes (c : Thread nD τ) 0 W)
        ∗ semVal (barC c) 0 ∗ (bigSep Finset.univ fun e : E => semVal (xC false c e) 0) ∗ (bigSep Finset.univ fun e : E => semVal (xC true c e) 0)) := by
  unfold Inv St
  rw [show script.drop 192 = [] from by decide +kernel, owedE_none σ c [] fun e => List.not_mem_nil]
  iintro ⟨#Hr, ⟨⟨Hx, HX⟩, Hb⟩, Ho, Hs, Hv, Hp⟩
  imod (show iprop(records σ m K ∗ bigSep Finset.univ (sendPart (F := F) σ c [])) ⊢ |={Set.univ}=> (bigSep Finset.univ fun e : E => semVal (xC false c e) 0) from
    (bigSep_with fun e _ => send_close σ m K c e).trans (bigSep_fupd _ _)) $$ [Hs] with Hs
  · isplitr; · iexact Hr
    iexact Hs
  imod (show iprop(records σ m K ∗ bigSep Finset.univ (recvPart (F := F) c [])) ⊢ |={Set.univ}=> (bigSep Finset.univ fun e : E => semVal (xC true c e) 0) from
    (bigSep_with fun e _ => recv_close σ m K c e).trans (bigSep_fupd _ _)) $$ [Hv] with Hv
  · isplitr; · iexact Hr
    iexact Hv
  imod (show iprop(records σ m K ∗ atPos ER (barC c) (0 + 1) ∅ 0) ⊢ |={Set.univ}=> semVal (barC c) 0 from
    (sep_mono_left (records_inv σ m K (c, none))).trans (cell_close ER (Rd σ m) (Set.mem_univ _) (fun h => h) (R := 0 + 1) (duties_later σ m _))) $$ [Hb] with Hb
  · isplitr; · iexact Hr
    iexact Hb
  imodintro
  ihave Hp' := (pieces_end σ m c) $$ Hp
  icases Hp' with ⟨Hout, Hxs⟩
  isplitl [HX]; · iexact HX
  isplitl [Hx Hxs]
  · iapply (xWhole_split m c).2; isplitl [Hxs] <;> iassumption
  isplitl [Hout]; · iexact Hout
  isplitl [Ho]; · iexact Ho
  isplitl [Hb]; · iexact Hb
  isplitl [Hs] <;> iassumption
end Ends

end Cert.MoveProof

end
-- ==== Proof.Device.lean ====
/-
# The kernel on a device, from what the launch deals it to what it gives back

The table is staged whole, so what the body reads of it is the table as launched. The device's start is its positions at
every one of its cells, the tokens of the duties it pays, its credits and its block of `x`; its end is the result in the
staging buffer, `x` as it was, and every counter at zero.
-/
module

public import proofs.«01_k».proof.Proof.Finish
public import proofs.«01_k».proof.Proof.Gen.KernelIdeal.Points
public import Idealize.ShloMosaic.Lib.Pipeline.CollectiveSegs

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Device
variable (σ : Equiv.Perm (Fin 4)) (m : (ℓ : Loc nD τ sig) → Buf (Elt F) ℓ) (ρ : Dev nD → PrngReg)

def s₀ : MemSt nD τ sig (Elt F) := ⟨m, fun _ => 0, ρ⟩

/-- Every device's table, as launched, names row `σ y` in word `y`. -/
def PreOK : Prop := ∀ c : Dev nD, m ((c : Thread nD τ).loc main_arg1) = fun i => word (σ (i 0))

/-! ## What a device starts from -/

/-- Its positions, and the tokens of the duties it pays. -/
def posOf (c : Dev nD) : sProp 𝕄 :=
  iprop(atPos ER (barC c) 0 ∅ 0 ∗ (bigSep Finset.univ fun e : E => atPos ER (xC false c e) 0 ∅ 0) ∗ (bigSep Finset.univ fun e : E => atPos ER (xC true c e) 0 ∅ 0))
def payToks (c : Dev nD) : sProp 𝕄 :=
  iprop((bigSep Finset.univ fun e : E => dutyTok ER (xC false c e) 0 0) ∗ (bigSep Finset.univ fun e : E => dutyTok ER (xC true (tgt σ e.1 c) e) 0 0)
    ∗ bigSep Finset.univ fun d : Fin 3 => dutyTok ER (barC (barTo σ c d)) 0 d)
def credsOf (c : Dev nD) : sProp 𝕄 :=
  iprop(cred (tallyAt (barC c) () 3) ∗ bigSep (Finset.univ.filter fun e : E => used e = true) fun e => cred (tallyAt (xC true c e) () N))
def ghost (c : Dev nD) : sProp 𝕄 := iprop((∃ K, records (F := F) σ m K) ∗ posOf c ∗ payToks σ c)
def start (c : Dev nD) : sProp 𝕄 := iprop(ghost σ m c ∗ credsOf c ∗ xWhole m c)
/-- Every counter of the device back at zero. -/
def zeros (c : Dev nD) : sProp 𝕄 :=
  iprop(semVal (barC c) 0 ∗ (bigSep Finset.univ fun e : E => semVal (xC false c e) 0) ∗ (bigSep Finset.univ fun e : E => semVal (xC true c e) 0))

theorem sends_start (c : Dev nD) :
    iprop((bigSep Finset.univ fun e : E => atPos ER (xC false c e) 0 ∅ 0) ∗ (bigSep Finset.univ fun e : E => dutyTok ER (xC false c e) 0 0)
        ∗ (bigSep Finset.univ fun e : E => dutyTok ER (xC true (tgt σ e.1 c) e) 0 0))
      ⊢ (bigSep Finset.univ (sendStart (F := F) σ c) : sProp 𝕄) := by
  rw [← bigSep_sep', ← bigSep_sep']
  refine bigSep_mono fun e _ => ?_
  unfold sendStart
  by_cases h : used e = true
  · rw [if_pos h]
    exact BI.Entails.refl _
  · rw [if_neg h]
    show iprop(atPos ER (xC false c e) 0 ∅ 0 ∗ dutyTok ER (xC false c e) 0 0 ∗ dutyTok ER (xC true (tgt σ e.1 c) e) 0 0) ⊢ (atPos ER (xC false c e) 0 ∅ 0 : sProp 𝕄)
    iintro ⟨H, -, -⟩
    iexact H
theorem recvs_start (c : Dev nD) :
    iprop((bigSep Finset.univ fun e : E => atPos ER (xC true c e) 0 ∅ 0) ∗ (bigSep (Finset.univ.filter fun e : E => used e = true) fun e => cred (tallyAt (xC true c e) () N)))
      ⊢ (bigSep Finset.univ (recvPart (F := F) c script) : sProp 𝕄) := by
  rw [bigSep_filter Finset.univ (fun e : E => used e = true) (fun e => (cred (tallyAt (xC true c e) () N) : sProp 𝕄)), ← bigSep_sep']
  refine bigSep_mono fun e _ => ?_
  unfold recvPart
  by_cases h : used e = true
  · rw [if_pos h, if_pos h, if_neg (not_not_intro (script_has e h).2.1)]
    exact BI.Entails.refl _
  · rw [if_neg h, if_neg h]
    show iprop(atPos ER (xC true c e) 0 ∅ 0 ∗ emp) ⊢ (atPos ER (xC true c e) 0 ∅ 0 : sProp 𝕄)
    iintro ⟨H, -⟩
    iexact H

theorem bar_start (K : Dev nD × KI → ℕ) (c : Dev nD) (f : S1x2048x1024.Idx → Elt F .f32) (W : Waits sig Unit) :
    iprop(records σ m K ∗ (posOf c ∗ payToks σ c) ∗ credsOf c ∗ xWhole m c ∗ owes (c : Thread nD τ) (O₀ σ c) W ∗ tPts (F := F) σ c ∗ oWhole c f)
      ⊢ Bar σ m K iprop(xRest m c ∗ tPts (F := F) σ c) c Finset.univ (O₀ σ c) := by
  unfold posOf payToks credsOf Bar
  iintro ⟨Hr, ⟨⟨HaB, HaS, HaR⟩, HtS, HtR, HtB⟩, ⟨HcB, HcR⟩, Hx, HO, Ht, Ho⟩
  ihave Hx' := (xWhole_split m c).1 $$ Hx
  icases Hx' with ⟨Hxs, Hx⟩
  isplitl [Hr]; · iexact Hr
  isplitl [Hx Ht]; · isplitl [Hx] <;> iassumption
  isplitl [HO]; · iexists W; iexact HO
  isplitl [HtB Ho]
  · rw [bigSep_sep']
    isplitl [HtB]; · iexact HtB
    iapply (targets_start σ c f); iexact Ho
  isplitl [HaB HcB]; · isplitl [HaB] <;> iassumption
  isplitl [HaS HtS HtR]
  · iapply (sends_start σ c)
    isplitl [HaS]; · iexact HaS
    isplitl [HtS] <;> iassumption
  isplitl [HaR HcR]
  · iapply (recvs_start c)
    isplitl [HaR] <;> iassumption
  iapply (pieces_start σ m c); iexact Hxs

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tbl (F := F) σ
    | ⟨1, _⟩ => outF σ m c
  Φ t := match t with
    | ⟨0, _⟩ => start σ m c
    | ⟨_ + 1, _⟩ => iprop(xWhole m c ∗ zeros c)
  q _ := fullShare
  owed t := match t with
    | ⟨0, _⟩ => O₀ σ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The windows are whole arrays: a block's index is placed at itself. -/
theorem idx_facts : ∀ t : Fin cfg0.N, win0_0.index t (0 : Fin 1) = 0 ∧ win0_1.index t (0 : Fin 3) = 0 ∧ win0_1.index t (1 : Fin 3) = 0 ∧ win0_1.index t (2 : Fin 3) = 0 :=
  (by decide +kernel : ∀ t : Fin grid0.N, _)
theorem emb0 (i : S4.Idx) : (win0_0.blk (0 : Fin 1)).view.emb i = i := by
  obtain ⟨e0, -, -, -⟩ := idx_facts t₀
  funext a; apply Fin.ext
  match a with
  | ⟨0, _⟩ => show win0_0.index t₀ (0 : Fin 1) * 4 + 1 * (i 0).val = (i 0).val; omega
theorem emb1 (i : S1x2048x1024.Idx) : (win0_1.blk (0 : Fin 1)).view.emb i = i := by
  obtain ⟨-, e0, e1, e2⟩ := idx_facts t₀
  funext a; apply Fin.ext
  match a with
  | ⟨0, _⟩ => show win0_1.index t₀ (0 : Fin 3) * 1 + 1 * (i 0).val = (i 0).val; omega
  | ⟨1, _⟩ => show win0_1.index t₀ (1 : Fin 3) * 2048 + 1 * (i 1).val = (i 1).val; omega
  | ⟨2, _⟩ => show win0_1.index t₀ (2 : Fin 3) * 1024 + 1 * (i 2).val = (i 2).val; omega

theorem staged_tbl (hP : PreOK σ m) (c : Dev nD) :
    (win0_0.blk (0 : Fin 1)).view.read (Elt F) ((s₀ m ρ).mem ((c : Thread nD τ).loc main_arg1)) = tbl (F := F) σ := by
  show (win0_0.blk (0 : Fin 1)).view.read (Elt F) (m ((c : Thread nD τ).loc main_arg1)) = _
  rw [hP c]
  funext i
  show word (σ _) = word (σ (i 0))
  exact congrArg (fun z : S4.Idx => word (σ (z 0))) (emb0 i)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start σ m c ∗ (dats σ m ρ 0 c).owesAt () t₀.castSucc
    ∗ (∃ d, stg c cc0_stg0_0 ((dats σ m ρ 0 c).before (0 : Fin 2) t₀ d))
    ∗ (∃ d, stg c cc0_stg1_0 ((dats σ m ρ 0 c).before (1 : Fin 2) t₀ d)))
def bodyPost (c : Dev nD) : sProp 𝕄 :=
  iprop((xWhole m c ∗ zeros c) ∗ (dats σ m ρ 0 c).owesAt () t₀.succ ∗ stg c cc0_stg0_0 (tbl (F := F) σ) ∗ stg c cc0_stg1_0 (outF σ m c))

theorem body_end (c : Dev nD) :
    iprop(tPts (F := F) σ c ∗ xWhole m c ∗ oWhole c (outF σ m c) ∗ (∃ W, owes (c : Thread nD τ) 0 W)
        ∗ semVal (barC c) 0 ∗ (bigSep Finset.univ fun e : E => semVal (xC false c e) 0) ∗ (bigSep Finset.univ fun e : E => semVal (xC true c e) 0))
      ⊢ bodyPost σ m ρ c := by
  unfold bodyPost zeros tPts oWhole Dat.owesAt Pipeline.owesWithin
  rw [show (dats σ m ρ 0 c).owed t₀.succ = 0 from rfl]
  iintro ⟨Ht, Hx, Ho, ⟨%W, HO⟩, Hz⟩
  isplitl [Hx Hz]; · isplitl [Hx] <;> iassumption
  isplitl [HO]
  · iexists W
    isplitr; · ipureintro; exact fun _ _ => Or.inl trivial
    iexact HO
  isplitl [Ht]
  · iexists _; isplitr; · (ipureintro; rfl)
    iexact Ht
  iexists _; isplitr; · (ipureintro; rfl)
  iexact Ho

theorem body_run (K : Dev nD × KI → ℕ) (c : Dev nD) :
    Bar σ m K iprop(xRest m c ∗ tPts (F := F) σ c) c Finset.univ (O₀ σ c) ⊢ wp frame (wpE (defs₀ (F := F)) 𝒱₀ (c : Thread nD τ) none) Set.univ
      (cc0_body (F := F) tM (Memref.isWhole_whole _) xM (Memref.isWhole_whole _) oM (Memref.isWhole_whole _) cc0_scratch0 cc0_scratch1) (fun _ => bodyPost σ m ρ c) := by
  generalize hp : cc0_body (F := F) tM (Memref.isWhole_whole _) xM (Memref.isWhole_whole _) oM (Memref.isWhole_whole _) cc0_scratch0 cc0_scratch1 = prog
  have hb := body_wp σ m K (xRest m c) c
  rw [hp] at hb
  refine hb.trans ((wp_mono frame (wpE (defs₀ (F := F)) 𝒱₀ (c : Thread nD τ) none) Set.univ (p := prog)
    (Q' := fun _ => iprop(|={Set.univ}=> bodyPost σ m ρ c)) fun _ => ?_).trans (wp_fupd frame _ _ prog _))
  exact (finish σ m K c (tPts (F := F) σ c)).trans (fupd_mono (body_end σ m ρ c))

theorem sound_body (hP : PreOK σ m) (c : Dev nD) :
    bodyPre σ m ρ c ⊢ wp frame (wpE (defs₀ (F := F)) 𝒱₀ (c : Thread nD τ) none) Set.univ
      (cc0_body (F := F) tM (Memref.isWhole_whole _) xM (Memref.isWhole_whole _) oM (Memref.isWhole_whole _) cc0_scratch0 cc0_scratch1) (fun _ => bodyPost σ m ρ c) := by
  unfold bodyPre start ghost
  iintro ⟨⟨⟨⟨%K, #Hr⟩, Hg⟩, Hc, Hx⟩, Ho, ⟨%d0, %g0, %hg0, Ht⟩, ⟨%d1, %g1, %hg1, Hout⟩⟩
  have ht : g0 = tbl (F := F) σ := by
    rw [hg0]; unfold Dat.before; rw [if_pos (fetch_0 t₀)]; exact staged_tbl σ m ρ hP c
  subst ht
  unfold Dat.owesAt Pipeline.owesWithin
  icases Ho with ⟨%W, %hW, HO⟩
  rw [show (dats σ m ρ 0 c).owed t₀.castSucc = O₀ σ c from rfl]
  iapply (body_run σ m ρ K c)
  iapply (bar_start σ m K c g1 W)
  isplitr; · iexact Hr
  isplitl [Hg]; · iexact Hg
  isplitl [Hc]; · iexact Hc
  isplitl [Hx]; · iexact Hx
  isplitl [HO]; · iexact HO
  isplitl [Ht]; · unfold tPts; iexact Ht
  unfold oWhole; iexact Hout

set_option maxRecDepth 20000 in
theorem body_obligation (hP : PreOK σ m) (c : Dev nD) : BodyObligation (dats (F := F) σ m ρ 0 c) (defs₀ (F := F)) 𝒱₀ () Set.univ := fun t => by
  rw [fin_N t]
  rw [bigSep_W0, bigSep_W0]
  simp only [owns_whole_eq]
  show bodyPre σ m ρ c ⊢ wp frame (wpE (defs₀ (F := F)) 𝒱₀ (c : Thread nD τ) none) Set.univ
    (cc0_body (F := F) tM (Memref.isWhole_whole _) xM (Memref.isWhole_whole _) oM (Memref.isWhole_whole _) cc0_scratch0 cc0_scratch1) (fun _ => bodyPost σ m ρ c)
  exact sound_body σ m ρ hP c

end Device

end Cert.MoveProof

end
-- ==== Proof.Run.lean ====
/-
# The run

The launch opens every device's cells, mints the tokens of their duties and deals each to the device that pays it. From
any memory with zero counters whose tables name the rows `σ`, every device ends with the result in its array, `x` and the
table as they were, and every counter at zero.
-/
module

public import proofs.«01_k».proof.Proof.Device

@[expose] public section

noncomputable section

namespace Cert.MoveProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (σ : Equiv.Perm (Fin 4)) (m : (ℓ : Loc nD τ sig) → Buf (Elt F) ℓ) (ρ : Dev nD → PrngReg)

/-! ## The cells and the tokens -/

abbrev osem (be : Bool × E) : SemLoc sig := .dma (semOf be.1 be.2)
theorem osem_inj : Function.Injective osem := fun a b h => by
  have := semOf_inj (SemLoc.dma.inj h); exact Prod.ext this.1 this.2
theorem win_sems : ∀ (w : Fin cfg0.W) s, ((cfg0.spec w).sem s).val < 2 :=
  fun w s => by fin_cases w <;> fin_cases s <;> decide
theorem ownSemFacts : Pipeline.OwnSemFacts cfg0.spec osem where
  isScoped := by decide +kernel
  inj := osem_inj
  disj k w s h := by
    have h1 := win_sems w s
    have h2 := semOf_ge k.1 k.2
    rw [SemLoc.dma.inj h] at h2; omega

theorem share_eq (c : Dev nD) (w : Fin cfg0.W) : (dats σ m ρ 0 c).share w = fullShare := by unfold Dat.share; split <;> rfl

theorem kcell_injective : Function.Injective (kcell : Dev nD × KI → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some be => cases h2
  | some be => cases k' with
    | none => cases h2
    | some be' => rw [osem_inj (show osem be = osem be' from h2)]
def cells : Finset (GSem nD τ sig) := Finset.univ.map ⟨kcell, kcell_injective⟩

/-- The duties of a device's cells: the one of every transfer's cell, the three of its barrier's. -/
abbrev TI : Type := (Bool × E) ⊕ Fin 3
def tokOf (cj : Dev nD × TI) : GSem nD τ sig × ℕ × Fin 3 := match cj.2 with
  | .inl be => (xC be.1 cj.1 be.2, 0, 0)
  | .inr d => (barC cj.1, 0, d)
theorem tokOf_injective : Function.Injective (tokOf : Dev nD × TI → GSem nD τ sig × ℕ × Fin 3) := by
  rintro ⟨c, j⟩ ⟨c', j'⟩ h
  have h1 : c = c' := by
    have := congrArg (fun x : GSem nD τ sig × ℕ × Fin 3 => x.1.1.1) h
    cases j <;> cases j' <;> exact this
  subst h1
  have h2 := congrArg (fun x : GSem nD τ sig × ℕ × Fin 3 => x.1.2) h
  have h3 := congrArg (fun x : GSem nD τ sig × ℕ × Fin 3 => x.2.2) h
  cases j with
  | inl be => cases j' with
    | inl be' => rw [osem_inj (show osem be = osem be' from h2)]
    | inr d => cases h2
  | inr d => cases j' with
    | inl be' => cases h2
    | inr d' => rw [show d = d' from h3]
def minted : Finset (GSem nD τ sig × ℕ × Fin 3) := Finset.univ.map ⟨tokOf, tokOf_injective⟩

def u₀ : UU := (initOf (Pipeline.cells cfgs cellOf_inj) (Pipeline.launchToks cfgs cellOf_inj), initOf cells minted)

theorem bigSep_bool (Φ : Bool → sProp 𝕄) : bigSep Finset.univ Φ = iprop(Φ false ∗ Φ true) := bigSep_univ_eq_bigSepL [false, true] (by decide) (by decide) Φ
theorem bigSep_flip {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), bigSep_univ_equiv (Equiv.prodComm B A), bigSep_univ_prod]
  rfl
theorem bigSep_xfers (Φ : Bool × E → sProp 𝕄) :
    bigSep Finset.univ Φ = iprop((bigSep Finset.univ fun e : E => Φ (false, e)) ∗ bigSep Finset.univ fun e : E => Φ (true, e)) := by
  rw [bigSep_univ_prod, bigSep_bool]
theorem bigSep_cells (Φ : KI → sProp 𝕄) :
    bigSep Finset.univ Φ = iprop(Φ none ∗ (bigSep Finset.univ fun e : E => Φ (some (false, e))) ∗ bigSep Finset.univ fun e : E => Φ (some (true, e))) := by
  rw [bigSep_univ_at _ none, ← bigSep_xfers fun be => Φ (some be),
    show (Finset.univ.erase none : Finset KI) = Finset.univ.map ⟨some, Option.some_injective _⟩ from by
      ext k; cases k <;> simp, bigSep_map]
  rfl

def toks (c : Dev nD) : sProp 𝕄 :=
  iprop((bigSep Finset.univ fun e : E => dutyTok ER (xC false c e) 0 0) ∗ (bigSep Finset.univ fun e : E => dutyTok ER (xC true c e) 0 0)
    ∗ bigSep Finset.univ fun d : Fin 3 => dutyTok ER (barC c) 0 d)

/-- What the launch deals a device of the cells' ghost state, and what is made of it. -/
def G (c : Dev nD) : sProp 𝕄 :=
  iprop((bigSep Finset.univ fun k : KI => roundState ER (Rd σ m) (kcell (c, k)) 0)
    ∗ ((bigSep Finset.univ fun k : KI => atPos ER (kcell (c, k)) 0 ∅ 0) ∗ bigSep Finset.univ fun k : KI => reached ER (kcell (c, k)) 0) ∗ toks c)

theorem fund : BI.own (ER (initOf cells minted)) ⊢ (|==> bigSep Finset.univ (G σ m) : sProp 𝕄) := by
  have hX (Φ : GSem nD τ sig → sProp 𝕄) : bigSep cells Φ = bigSep Finset.univ fun c : Dev nD => bigSep Finset.univ fun k : KI => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod]
    refine bigSep_congr fun c _ => ?_
    unfold toks
    rw [bigSep_univ_sum, bigSep_xfers]
    have ha (A B C : sProp 𝕄) : iprop((A ∗ B) ∗ C) = iprop(A ∗ B ∗ C) :=
      BI.Entails.antisymm (show iprop((A ∗ B) ∗ C) ⊢ iprop(A ∗ B ∗ C) from Laws.sep_assoc.1) (show iprop(A ∗ B ∗ C) ⊢ iprop((A ∗ B) ∗ C) from by
        iintro ⟨HA, HB, HC⟩
        isplitr [HC]
        · isplitl [HA] <;> iassumption
        · iexact HC)
    exact ha _ _ _
  iintro HX
  imod (Rounds.fund ER (Rd σ m) cells minted) $$ HX with ⟨Hst, Hr, Hat, Htok⟩
  imodintro
  ihave Hst' := (Entails.of_eq (hX fun g => roundState ER (Rd σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat' Hr']
  · isplitl [Hat'] <;> iassumption
  iexact Htok'

/-! ## The counters as the launch deals them -/

theorem ownSems0_eq (c : Dev nD) : (Pipeline.ownSems0 (Ix := Unit) (Name := ℕ) (U := UU) (Lvl := ℕ) (Val := Elt F) (τ := τ) osem c : sProp 𝕄)
    = iprop((bigSep Finset.univ fun e : E => semVal (xC false c e) 0) ∗ bigSep Finset.univ fun e : E => semVal (xC true c e) 0) := by
  unfold Pipeline.ownSems0; rw [bigSep_xfers]
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k : KI => iprop(∃ κ : ℕ, cellInv ER (Rd σ m) κ (kcell (c, k))))
          ∗ ((bigSep Finset.univ fun k : KI => atPos ER (kcell (c, k)) 0 ∅ 0) ∗ bigSep Finset.univ fun k : KI => reached ER (kcell (c, k)) 0) ∗ toks c) := by
  unfold G
  rw [ownSems0_eq, unscopedSems0_eq]
  iintro ⟨Hos, Hus, Hst, Hat, Htok⟩
  ihave Hv := (show iprop(semVal (barC c) 0 ∗ (bigSep Finset.univ fun e : E => semVal (xC false c e) 0) ∗ bigSep Finset.univ fun e : E => semVal (xC true c e) 0)
      ⊢ (bigSep Finset.univ fun k : KI => semVal (kcell (c, k)) 0 : sProp 𝕄) from Entails.of_eq (bigSep_cells fun k => semVal (kcell (c, k)) 0).symm) $$ [Hos Hus]
  · isplitl [Hus] <;> iassumption
  imod (show iprop((bigSep Finset.univ fun k : KI => semVal (kcell (c, k)) 0) ∗ bigSep Finset.univ fun k : KI => roundState ER (Rd σ m) (kcell (c, k)) 0)
      ⊢ (|={Set.univ}=> bigSep Finset.univ fun k : KI => iprop(∃ κ : ℕ, cellInv ER (Rd σ m) κ (kcell (c, k))) : sProp 𝕄) from by
        rw [← bigSep_sep']
        exact (bigSep_mono fun k _ => (Rounds.body_intro ER (Rd σ m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to who pays -/

/-- A stage that sends the way a barrier's unit is given against. -/
def stageOf : Fin 3 → Fin 9 := ![8, 0, 4]
theorem barTo_eq (c : Dev nD) (d : Fin 3) : barTo σ c d = (moves σ (stageOf d)).symm c := by fin_cases d <;> rfl

theorem toks_around : (bigSep Finset.univ fun c : Dev nD => (toks c : sProp 𝕄)) ⊢ bigSep Finset.univ fun c : Dev nD => payToks σ c := by
  unfold toks payToks
  rw [bigSep_sep', bigSep_sep', bigSep_sep', bigSep_sep']
  have h1 : (bigSep Finset.univ fun c : Dev nD => bigSep Finset.univ fun e : E => (dutyTok ER (xC true c e) 0 0 : sProp 𝕄))
      = bigSep Finset.univ fun c : Dev nD => bigSep Finset.univ fun e : E => dutyTok ER (xC true (tgt σ e.1 c) e) 0 0 := by
    rw [bigSep_flip, bigSep_flip fun (c : Dev nD) (e : E) => (dutyTok ER (xC true (tgt σ e.1 c) e) 0 0 : sProp 𝕄)]
    exact bigSep_congr fun e _ => bigSep_univ_equiv (moves σ e.1) fun c : Dev nD => (dutyTok ER (xC true c e) 0 0 : sProp 𝕄)
  have h2 : (bigSep Finset.univ fun c : Dev nD => bigSep Finset.univ fun d : Fin 3 => (dutyTok ER (barC c) 0 d : sProp 𝕄))
      = bigSep Finset.univ fun c : Dev nD => bigSep Finset.univ fun d : Fin 3 => dutyTok ER (barC (barTo σ c d)) 0 d := by
    rw [bigSep_flip, bigSep_flip fun (c : Dev nD) (d : Fin 3) => (dutyTok ER (barC (barTo σ c d)) 0 d : sProp 𝕄)]
    refine bigSep_congr fun d _ => (bigSep_univ_equiv (moves σ (stageOf d)).symm fun c : Dev nD => (dutyTok ER (barC c) 0 d : sProp 𝕄)).trans
      (bigSep_congr fun c _ => by rw [barTo_eq])
  rw [h1, h2]

/-- The cells' records but for the levels. -/
def recs (K : Dev nD × KI → ℕ) : sProp 𝕄 :=
  iprop((bigSep Finset.univ fun ck : Dev nD × KI => cellInv ER (Rd σ m) (K ck) (kcell ck)) ∗ bigSep Finset.univ fun ck : Dev nD × KI => reached ER (kcell ck) 0)
instance recs_persistent (K : Dev nD × KI → ℕ) : BI.Persistent (recs (F := F) σ m K) := by unfold recs; infer_instance
def G' (c : Dev nD) : sProp 𝕄 := iprop((∃ K, recs (F := F) σ m K) ∗ posOf c ∗ payToks σ c)

theorem regroup :
    (bigSep Finset.univ fun c : Dev nD => iprop((bigSep Finset.univ fun k : KI => iprop(∃ κ : ℕ, cellInv ER (Rd σ m) κ (kcell (c, k))))
          ∗ ((bigSep Finset.univ fun k : KI => atPos ER (kcell (c, k)) 0 ∅ 0) ∗ bigSep Finset.univ fun k : KI => reached ER (kcell (c, k)) 0) ∗ toks c) : sProp 𝕄)
      ⊢ bigSep Finset.univ (G' σ m) := by
  rw [bigSep_sep', bigSep_sep', bigSep_sep', ← bigSep_univ_prod (fun ck : Dev nD × KI => iprop(∃ κ : ℕ, cellInv ER (Rd σ m) κ (kcell ck))),
    ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd σ m) κ (kcell ck) : sProp 𝕄))) $$ HI
  icases HK with ⟨%K, #HI⟩
  ihave Htk := (toks_around (F := F) σ) $$ Htok
  iapply (bigSep_with (R := recs σ m K) (Φ := fun c => iprop(posOf c ∗ payToks σ c)) fun c _ => show iprop(recs σ m K ∗ posOf c ∗ payToks σ c) ⊢ G' σ m c from by
    unfold G'
    iintro ⟨Hr, Hp⟩
    isplitl [Hr]; · iexists K; iexact Hr
    iexact Hp)
  isplitr
  · unfold recs; isplitl; · iexact HI
    iexact HR
  · rw [bigSep_sep']
    isplitl [Hat]
    · iapply (show (bigSep Finset.univ fun c : Dev nD => bigSep Finset.univ fun k : KI => (atPos ER (kcell (c, k)) 0 ∅ 0 : sProp 𝕄)) ⊢ bigSep Finset.univ fun c : Dev nD => posOf c from
        bigSep_mono fun c _ => Entails.of_eq (bigSep_cells fun k => atPos ER (kcell (c, k)) 0 ∅ 0))
      iexact Hat
    iexact Htk

theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => core_alloc σ m c).trans (bigSep_fupd _ _)).trans (BI.fupd_mono (regroup σ m))

/-! ## The credits -/

theorem bar_iff {a b : Dev nD} : Iff (barC a = barC b) (a = b) := ⟨fun h => congrArg (fun g : GSem nD τ sig => g.1.1) h, fun h => h ▸ rfl⟩
theorem xC_iff {a b : Dev nD} {e : E} : Iff (xC true a e = xC true b e) (a = b) := ⟨fun h => congrArg (fun g : GSem nD τ sig => g.1.1) h, fun h => h ▸ rfl⟩

theorem recv_ne_bar {a b : Dev nD} {e : E} (h : xC true a e = barC b) : False := by
  have := congrArg Prod.snd h; cases this

theorem tally_bar (t : Fin 9) (d c : Dev nD) : (tallyAt (barC (snd σ t d)) () 1 : CellTallies nD τ sig Unit) (barC c) () = if d = tgt σ t c then 1 else 0 := by
  rw [tallyAt_apply]
  by_cases h : d = tgt σ t c
  · subst h; rw [snd_tgt, if_pos ⟨rfl, rfl⟩, if_pos rfl]
  · rw [if_neg (fun h' => h (by rw [bar_iff.mp h'.1, tgt_snd])), if_neg h]
theorem tally_recv (e : E) (d c : Dev nD) : (tallyAt (xC true (tgt σ e.1 d) e) () N : CellTallies nD τ sig Unit) (xC true c e) () = if d = snd σ e.1 c then N else 0 := by
  rw [tallyAt_apply]
  by_cases h : d = snd σ e.1 c
  · subst h; rw [tgt_snd, if_pos ⟨rfl, rfl⟩, if_pos rfl]
  · rw [if_neg (fun h' => h (by rw [xC_iff.mp h'.1, snd_tgt])), if_neg h]

theorem owed_split (d : Dev nD) (g : GSem nD τ sig) : O₀ σ d g () = owedE σ d script g () + (tallyAt (barC (snd σ 4 d)) () 1 : CellTallies nD τ sig Unit) g ()
    + (tallyAt (barC (snd σ 0 d)) () 1 : CellTallies nD τ sig Unit) g () + (tallyAt (barC (snd σ 8 d)) () 1 : CellTallies nD τ sig Unit) g () := rfl
theorem owed_bar (d c : Dev nD) : O₀ σ d (barC c) () = (if d = tgt σ 4 c then 1 else 0) + (if d = tgt σ 0 c then 1 else 0) + (if d = tgt σ 8 c then 1 else 0) := by
  rw [owed_split, tally_bar, tally_bar, tally_bar, show owedE σ d script (barC c) () = 0 from by
    by_contra h
    obtain ⟨e, -, he⟩ := owedE_pos σ (Nat.pos_of_ne_zero h)
    exact recv_ne_bar he.symm, Nat.zero_add]

theorem owed_recv (d c : Dev nD) {e : E} (hu : used e = true) : O₀ σ d (xC true c e) () = if d = snd σ e.1 c then N else 0 := by
  have hz (d' : Dev nD) : (tallyAt (barC d') () 1 : CellTallies nD τ sig Unit) (xC true c e) () = 0 := by
    rw [tallyAt_apply, if_neg fun h => recv_ne_bar h.1]
  rw [owed_split, hz, hz, hz, Nat.add_zero]
  unfold owedE
  rw [Finset.sum_apply, Finsupp.finset_sum_apply, Finset.sum_eq_single e, tally_recv]
  · intro e' _ hne
    rw [tallyAt_apply, if_neg fun h => hne (semOf_inj (SemLoc.dma.inj (congrArg Prod.snd h.1))).2.symm]
  · intro h
    exact absurd (Finset.mem_filter.mpr ⟨Finset.mem_univ _, hu, (script_has e hu).1⟩) h

theorem launch_bar (c : Dev nD) :
    tallyOn (barC c) (launchCredit (Pipeline.owing (O₀ σ)) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem launch_recv (c : Dev nD) {e : E} (hu : used e = true) :
    tallyOn (xC true c e) (launchCredit (Pipeline.owing (O₀ σ)) 0 (xC true c e)) = (tallyAt (xC true c e) () N : CellTallies nD τ sig Unit) := by
  unfold tallyAt; refine congrArg _ (Finsupp.ext fun u => ?_); cases u
  rw [Pipeline.launchCredit_owing, Finsupp.single_eq_same, Finset.sum_congr rfl fun d _ => owed_recv σ d c hu, Finset.sum_ite_eq' Finset.univ _ fun _ => N,
    if_pos (Finset.mem_univ _)]

theorem creds (c : Dev nD) : (Pipeline.launchCred (O₀ σ) c : sProp 𝕄) ⊢ credsOf c := by
  unfold Pipeline.launchCred credsOf
  rw [bigSep_univ_at _ (SemLoc.reg barS), launch_bar]
  refine sep_mono_right ?_
  have hinj : Function.Injective fun e : E => osem (true, e) := fun a b h => congrArg Prod.snd (osem_inj h)
  refine (bigSep_subset (t := (Finset.univ.filter fun e : E => used e = true).map ⟨_, hinj⟩) fun s hs => ?_).trans ?_
  · obtain ⟨e, -, rfl⟩ := Finset.mem_map.mp hs
    exact Finset.mem_erase.mpr ⟨fun h => recv_ne_bar (a := c) (b := c) (e := e) (congrArg (Prod.mk (c : Thread nD τ)) h), Finset.mem_univ _⟩
  · rw [bigSep_map]
    exact Entails.of_eq (bigSep_congr fun e he => congrArg cred (launch_recv σ c (Finset.mem_filter.mp he).2))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ |={Set.univ}=> iprop(start σ m c ∗ emp) := by
  rw [Pipeline.unscopedRestP_none, unscopedRest0_eq]
  unfold G' start ghost
  iintro ⟨Hx, Hlev, Hcr, -, ⟨⟨%K, Hr⟩, Hg⟩⟩
  ihave Hc := (creds (F := F) σ c) $$ Hcr
  imodintro
  isplitl
  · isplitl [Hr Hlev Hg]
    · isplitl [Hr Hlev]
      · iexists K
        unfold recs records
        icases Hr with ⟨H1, H2⟩
        isplitl [H1]; · iexact H1
        isplitl [H2] <;> iassumption
      iexact Hg
    isplitl [Hc]; · iexact Hc
    unfold xWhole; iexact Hx
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = start σ m c from rfl]
  iintro ⟨Hs, -, -⟩
  iexact Hs

/-- What a device ends with besides its arrays. -/
def rest (c : Dev nD) : sProp 𝕄 := iprop(unscopedSems0 c ∗ xWhole m c)

theorem phi1_exit (c : Dev nD) :
    (dats σ m ρ 0 c).Φ (Fin.last cfg0.N) ⊢ iprop(rest m c ∗ Pipeline.ownSems0 osem c ∗ Pipeline.scopedRest cfg0.spec c) := by
  rw [show (dats σ m ρ 0 c).Φ (Fin.last cfg0.N) = iprop(xWhole m c ∗ zeros c) from rfl, scopedRest0_eq, ownSems0_eq]
  unfold rest zeros
  rw [unscopedSems0_eq]
  iintro ⟨Hx, HzB, HzS⟩
  isplitl [HzB Hx]; · isplitl [HzB] <;> iassumption
  isplitl [HzS]; · iexact HzS
  iempintro

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (win_sems w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats σ m ρ 0 c).arrAt w cfg0.N

theorem finalA_table (c : Dev nD) : finalA σ m ρ c (0 : Fin 2) = m ((c : Thread nD τ).loc main_arg1) :=
  (dats (F := F) σ m ρ 0 c).arrAt_in (0 : Fin 2) rfl _
theorem finalA_result (c : Dev nD) : finalA σ m ρ c (1 : Fin 2) = outF σ m c := by
  have h : (win0_1.blk (0 : Fin 1)).view.read (Elt F) (finalA σ m ρ c (1 : Fin 2)) = outF σ m c := by
    unfold finalA
    rw [show cfg0.N = ((0 : Fin 1) : Fin cfg0.N).val + 1 from rfl, (dats σ m ρ 0 c).arrAt_succ (1 : Fin 2) (0 : Fin 1)]
    rw [show (cfg0.win (1 : Fin 2)).flush (0 : Fin 1) = true from by decide, if_pos rfl]
    exact View.read_write_univ _ _
  funext i
  have hi := congrFun h i
  rw [← hi]
  exact congrArg (finalA σ m ρ c (1 : Fin 2)) (emb1 i).symm

/-- What the run ends with: on every device the result in its array, `x` and the table as they were. -/
def QC : PUnit × MemSt nD τ sig (Elt F) → Prop := fun r => ∀ c : Dev nD,
  r.2.mem ((c : Thread nD τ).loc main_v1) = outF σ m c ∧ r.2.mem ((c : Thread nD τ).loc main_arg0) = m ((c : Thread nD τ).loc main_arg0)
    ∧ r.2.mem ((c : Thread nD τ).loc main_arg1) = m ((c : Thread nD τ).loc main_arg1)

set_option maxRecDepth 100000 in
theorem run_main (hP : PreOK σ m) : θ_run defs (onTc (τ := τ) (main (F := F))) (s₀ m ρ) (fun r => QC σ m r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation σ m ρ hP) (hne := fun w => by fin_cases w <;> exact Nat.succ_pos _) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := G σ m) (G' := G' σ m) (u₀ := u₀)
    (hu₀ := by
      unfold u₀
      iintro Hu
      ihave H := (ownU_pair _ _) $$ Hu
      icases H with ⟨HP, HX⟩
      imod (fund σ m) $$ HX with HG
      imodintro
      isplitl [HP] <;> iassumption)
    (hglob := glob σ m)
    (hA := fun _ _ => rfl) (hpf := fun _ k => k.elim0)
    (X := start σ m) (Y := rest m) (Z := fun _ => iprop(emp))
    (hX := start_intro σ m ρ) (hin := phi0_intro σ m ρ) (hout := phi1_exit σ m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold rest xWhole
      iintro ⟨⟨Hu, Hx⟩, -, HSI⟩
      icombine HSI Hx gives %hx
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hx⟩
      iexact HSI)
    (hQ := fun _ h hs => ⟨fun c => ⟨((h c).1 (1 : Fin 2)).trans (finalA_result σ m ρ c), (h c).2.2.2, ((h c).1 (0 : Fin 2)).trans (finalA_table σ m ρ c)⟩,
      sem_eq_zero hs fun c => (h c).2.2.1⟩)
end Run

end Cert.MoveProof

end
-- ==== Proof.Reference.lean ====
/- The reference's run on its one device, and what it leaves: block `y` of the result is block `σ⁻¹ y` of the argument,
   where the table of indices lists the permutation `σ`. The sort of a permutation's words with their positions beside them
   gives the inverse permutation's words; the comparison with zero keeps them; the gather reads the block each one names. -/
module

public import proofs.«01_k».proof.ReferenceIdeal
public import proofs.«01_k».proof.Proof.Gen.ReferenceIdeal
public import Idealize.ShloMosaic.Lib.StableHlo.Run
public import Idealize.ShloMosaic.Lib.Quiescent
public import Mathlib.Data.Fintype.Perm
public import Mathlib.Logic.Equiv.Fintype

@[expose] public section

noncomputable section

namespace Cert.MoveRef

open Cert.ReferenceIdeal Cert.ReferenceIdeal.Gen
open Idealize.ShloMosaic Idealize.ShloMosaic.TcCoe Idealize.ShloMosaic.StableHlo Idealize.SL.Sem

variable {F : FTy → Type} [FloatOps F] {α : Type}

/-- The positions of a table sorted by its words. -/
abbrev order (p : IVec S4 32) : IVec S4 32 := (Host.sort2 S4 0 comparator_i32_i32_d0 p (iotaInDim S4 32 0)).2

/-- The words the gather reads: the positions, those below zero counted from the end. -/
abbrev starts (p : IVec S4 32) : IVec S4x1 32 :=
  broadcastInDim S4x1 ![0] Facts₀.bcast_S4_S4x1_0
    (select (cmpi .slt (order p) (broadcastInDim S4 ![] Facts₀.bcast_S_S4 (constantI S_ 32 0#32)))
      (addi (order p) (broadcastInDim S4 ![] Facts₀.bcast_S_S4 (constantI S_ 32 4#32))) (order p))

/-- The reference's result from its arguments. -/
abbrev refOut (x : S4x2048x1024.Idx → α) (p : IVec S4 32) : S4x2048x1024.Idx → α :=
  Host.gather gather_S4x2048x1024_S4x1_S4x2048x1024_12_0_n_n_0_1_120481024 x (starts p)

/-- The operations of the reference, in order. -/
abbrev ops : List (HloOp τ sig (Elt F)) :=
  [ nullary main_call0_v0 (iotaInDim S4 32 0),
    binary main_arg1 main_call0_v0 main_call0_v1_0 (fun x y => (Host.sort2 S4 0 comparator_i32_i32_d0 x y).1),
    binary main_arg1 main_call0_v0 main_v0 (fun x y => (Host.sort2 S4 0 comparator_i32_i32_d0 x y).2),
    nullary main_c (constantI S_ 32 0#32),
    unary main_c main_v1 (broadcastInDim S4 ![] Facts₀.bcast_S_S4 : (⟨S_, .i32⟩ : BufTy).Contents (Elt F) → (⟨S4, .i32⟩ : BufTy).Contents (Elt F)),
    binary main_v0 main_v1 main_v2 (cmpi .slt : (⟨S4, .i32⟩ : BufTy).Contents (Elt F) → (⟨S4, .i32⟩ : BufTy).Contents (Elt F) → (⟨S4, .i1⟩ : BufTy).Contents (Elt F)),
    nullary main_c_0 (constantI S_ 32 4#32),
    unary main_c_0 main_v3 (broadcastInDim S4 ![] Facts₀.bcast_S_S4 : (⟨S_, .i32⟩ : BufTy).Contents (Elt F) → (⟨S4, .i32⟩ : BufTy).Contents (Elt F)),
    binary main_v0 main_v3 main_v4 (addi : (⟨S4, .i32⟩ : BufTy).Contents (Elt F) → (⟨S4, .i32⟩ : BufTy).Contents (Elt F) → (⟨S4, .i32⟩ : BufTy).Contents (Elt F)),
    ternary main_v2 main_v4 main_v0 main_v5 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v5 main_v6 (broadcastInDim S4x1 ![0] Facts₀.bcast_S4_S4x1_0 : (⟨S4, .i32⟩ : BufTy).Contents (Elt F) → (⟨S4x1, .i32⟩ : BufTy).Contents (Elt F)),
    binary main_arg0 main_v6 main_v7 (fun x i => Host.gather gather_S4x2048x1024_S4x1_S4x2048x1024_12_0_n_n_0_1_120481024 x i) ]

theorem main_eq (c : Dev nD) : main (F := F) c = seq ops := rfl

theorem out_eq (V : Valuation τ sig (Elt F)) :
    after ops V (main_v7 : DevRef τ sig) = refOut (V (main_arg0 : DevRef τ sig)) (V (main_arg1 : DevRef τ sig)) := by
  after_results

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- From any memory with zero counters every fair execution of the reference ends, its result holding `refOut` of what the
    arguments held, the arguments and the counters as they were. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v7).trans (out_eq _), (h c main_arg0).trans (arg0_eq _), (h c main_arg1).trans (arg1_eq _)⟩,
      sem_eq_zero_of_no_sems rfl r.2⟩)
    (run_seq scopedRefs_eq scopedSems_eq defs main (fun _ => ops) main_eq (fun _ => ops_sub) m ρ)

/-! ## The value -/

/-- Sorting the words of a permutation puts at `j` the place the permutation sends to `j`. -/
theorem sorted_eq : ∀ (σ : Equiv.Perm (Fin 4)) (j : Fin 4),
    sortedFrom (fun k k' => IntOp.cmpi .slt (BitVec.ofNat 32 (σ k).val) (BitVec.ofNat 32 (σ k').val) == 1#1) j = σ.symm j := by
  decide +kernel

variable (σ : Equiv.Perm (Fin 4))

/-- The table of a permutation. -/
abbrev table : IVec S4 32 := fun i => BitVec.ofNat 32 (σ (i 0)).val

theorem order_eq (i : S4.Idx) : order (table σ) i = BitVec.ofNat 32 (σ.symm (i 0)).val :=
  congrArg (fun k : Fin 4 => BitVec.ofNat 32 k.val) (sorted_eq σ (i 0))

theorem starts_eq (i : S4x1.Idx) : starts (table σ) i = BitVec.ofNat 32 (σ.symm (i 0)).val := by
  have h : ∀ k : Fin 4, (if IntOp.cmpi .slt (BitVec.ofNat 32 k.val) 0#32 = 1#1 then BitVec.ofNat 32 k.val + 4#32 else BitVec.ofNat 32 k.val)
      = BitVec.ofNat 32 k.val := by decide
  have e : ∀ j : S4.Idx, select (cmpi .slt (order (table σ)) (broadcastInDim S4 ![] Facts₀.bcast_S_S4 (constantI S_ 32 0#32)))
      (addi (order (table σ)) (broadcastInDim S4 ![] Facts₀.bcast_S_S4 (constantI S_ 32 4#32))) (order (table σ)) j
        = BitVec.ofNat 32 (σ.symm (j 0)).val := fun j => by
    show (if IntOp.cmpi .slt (order (table σ) j) 0#32 = 1#1 then order (table σ) j + 4#32 else order (table σ) j) = _
    rw [order_eq]
    exact h _
  exact e _

/-- Block `y` of the reference's result is block `σ⁻¹ y` of the argument. -/
theorem refOut_eq (x : S4x2048x1024.Idx → α) (i k : S4x2048x1024.Idx) (h0 : k 0 = σ.symm (i 0)) (h1 : k 1 = i 1) (h2 : k 2 = i 2) :
    refOut x (table σ) i = x k := by
  have hc : ∀ y : Fin 4, min (BitVec.ofNat 32 y.val).toInt.toNat 3 + 0 + 0 = y.val := by decide
  refine congrArg x (funext fun a => Fin.ext ?_)
  fin_cases a
  · have e : ∀ j : S4x1.Idx, j 0 = i 0 → min (starts (table σ) j).toInt.toNat 3 + 0 + 0 = (k 0).val := fun j hj => by
      rw [starts_eq, hj, h0]; exact hc _
    exact e (gather_S4x2048x1024_S4x1_S4x2048x1024_12_0_n_n_0_1_120481024.siIdx i ⟨0, by decide⟩) rfl
  · show 0 + 0 + (i 1).val = (k 1).val
    rw [h1]; omega
  · show 0 + 0 + (i 2).val = (k 2).val
    rw [h2]; omega

end Cert.MoveRef

end
-- ==== Proof.Equation.lean ====
/- The kernel computes what the reference computes: each device's result is its block of the reference's. Stated for any
   permutation that every device's table lists, with the frames of the three programs beside it. -/
module

public import proofs.«01_k».proof.Proof.Run
public import proofs.«01_k».proof.Proof.Reference
public import proofs.«01_k».proof.Kernel
public import proofs.«01_k».proof.Proof.Gen.Kernel
public import Idealize.ShloMosaic.Lib.Layout
public import Idealize.ShloMosaic.PureOps.BitExact

@[expose] public section

noncomputable section

namespace Cert.MoveProof

open Cert.KernelIdeal Cert.KernelIdeal.Gen
open Idealize Idealize.ShloMosaic Idealize.ShloMosaic.TcCoe Idealize.SL.Sem

/-! ## The predicate on the table -/

/-- The predicate on the table as it is printed, its four words named. -/
def listed (h0 : S4.Slices ![0] S1) (hc : S1.ShapeCasts S_) (h1 : S4.Slices ![1] S1) (h2 : S4.Slices ![2] S1) (h3 : S4.Slices ![3] S1)
    (w0 w1 w2 w3 : BitVec 32) (p : IVec S4 32) : IVec S_ 1 :=
  andi (andi (andi (cmpi .eq (shapeCast S_ (extractStridedSlice S1 ![0] p h0) hc) (constantI S_ 32 w0))
    (cmpi .eq (shapeCast S_ (extractStridedSlice S1 ![1] p h1) hc) (constantI S_ 32 w1)))
    (cmpi .eq (shapeCast S_ (extractStridedSlice S1 ![2] p h2) hc) (constantI S_ 32 w2)))
    (cmpi .eq (shapeCast S_ (extractStridedSlice S1 ![3] p h3) hc) (constantI S_ 32 w3))

/-- Four comparisons that hold together give the four equations. -/
theorem four_eqs (a b c d w0 w1 w2 w3 : BitVec 32)
    (h : IntOp.andi (IntOp.andi (IntOp.andi (IntOp.cmpi .eq a w0) (IntOp.cmpi .eq b w1)) (IntOp.cmpi .eq c w2)) (IntOp.cmpi .eq d w3) = 1#1) :
    a = w0 ∧ b = w1 ∧ c = w2 ∧ d = w3 := by
  have hand : ∀ p q r s : Bool, IntOp.andi (IntOp.andi (IntOp.andi (BitVec.ofBool p) (BitVec.ofBool q)) (BitVec.ofBool r)) (BitVec.ofBool s) = 1#1 →
      p = true ∧ q = true ∧ r = true ∧ s = true := by decide
  obtain ⟨e0, e1, e2, e3⟩ := hand _ _ _ _ h
  exact ⟨eq_of_beq e0, eq_of_beq e1, eq_of_beq e2, eq_of_beq e3⟩

/-- The table's place for a row. -/
def place (k : Fin 4) : S4.Idx := fun a => match a with
  | ⟨0, _⟩ => k

/-- A table of which the predicate holds lists its four words. -/
theorem listed_eq {h0 : S4.Slices ![0] S1} {hc : S1.ShapeCasts S_} {h1 : S4.Slices ![1] S1} {h2 : S4.Slices ![2] S1} {h3 : S4.Slices ![3] S1}
    {w0 w1 w2 w3 : BitVec 32} {p : IVec S4 32} (h : listed h0 hc h1 h2 h3 w0 w1 w2 w3 p = fun _ => 1#1) (i : S4.Idx) :
    p i = ![w0, w1, w2, w3] (i 0) := by
  have one (z : S1.Idx) : (z 0).val = 0 := by have : (z 0).val < 1 := (z 0).isLt; omega
  have at_ (k : Fin 4) (hk : S4.Slices ![k.val] S1) (j : S_.Idx) : shapeCast S_ (extractStridedSlice S1 ![k.val] p hk) hc j = p (place k) := by
    refine congrArg p (funext fun a => Fin.ext ?_)
    fin_cases a
    show k.val + (Shape.reshapeEquiv hc j 0).val = k.val
    rw [one]; rfl
  have e := congrFun h (fun a => a.elim0)
  obtain ⟨e0, e1, e2, e3⟩ := four_eqs _ _ _ _ _ _ _ _ e
  have l : ∀ k : Fin 4, p (place k) = ![w0, w1, w2, w3] k := by
    intro k
    fin_cases k
    · exact (at_ 0 h0 _).symm.trans e0
    · exact (at_ 1 h1 _).symm.trans e1
    · exact (at_ 2 h2 _).symm.trans e2
    · exact (at_ 3 h3 _).symm.trans e3
  refine (congrArg p (funext fun a => ?_)).trans (l (i 0))
  fin_cases a; rfl

/-- The four words name the rows of some permutation. -/
def Names (w0 w1 w2 w3 : BitVec 32) : Prop := ∃ σ : Equiv.Perm (Fin 4), ∀ k : Fin 4, ![w0, w1, w2, w3] k = BitVec.ofNat 32 (σ k).val

instance (w0 w1 w2 w3 : BitVec 32) : Decidable (Names w0 w1 w2 w3) := by unfold Names; infer_instance

variable {F : FTy → Type} [FloatOps F]

/-- Where the predicate holds on every device, and its words name the rows of a permutation, every table lists it. -/
theorem ok_of_pre {h0 : S4.Slices ![0] S1} {hc : S1.ShapeCasts S_} {h1 : S4.Slices ![1] S1} {h2 : S4.Slices ![2] S1} {h3 : S4.Slices ![3] S1}
    {w0 w1 w2 w3 : BitVec 32} (hw : Names w0 w1 w2 w3) (m : (ℓ : Loc nD τ sig) → Buf (Elt F) ℓ)
    (h : ∀ c : Dev nD, listed h0 hc h1 h2 h3 w0 w1 w2 w3 (m ((c.tc : Thread nD τ).loc main_arg1)) = fun _ => 1#1) :
    ∃ σ : Equiv.Perm (Fin 4), PreOK σ m := by
  obtain ⟨σ, hσ⟩ := hw
  exact ⟨σ, fun c => funext fun i => (listed_eq (h c) i).trans (hσ (i 0))⟩

/-! ## The frames -/

/-- The arguments and every counter end as they were. -/
theorem frame_ideal (m : (ℓ : Loc nD τ sig) → Buf (Elt F) ℓ) (ρ : Dev nD → PrngReg) (h : ∃ σ : Equiv.Perm (Fin 4), PreOK σ m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  obtain ⟨σ, hσ⟩ := h
  exact (θ_run defs _ _).mono (fun r hr => ⟨fun c => (hr.1 c).2, hr.2⟩) (run_main σ m ρ hσ)

/-- The two kernels' bodies are one text. -/
theorem bodies_eq : Cert.Kernel.defs₀ (F := Bits) = Cert.KernelIdeal.defs₀ (F := Bits) := by
  refine congrArg Defs.onTc (funext fun l => funext fun a => ?_)
  match l, a with
  | 0, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq

/-- The same of the kernel as it was written, whose text is the same. -/
theorem frame_kernel (m : (ℓ : Loc Cert.Kernel.nD Cert.Kernel.τ Cert.Kernel.sig) → Buf (Elt Bits) ℓ) (ρ : Dev Cert.Kernel.nD → PrngReg)
    (h : ∃ σ : Equiv.Perm (Fin 4), PreOK (F := Bits) σ m) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  defs_eq ▸ frame_ideal (F := Bits) m ρ h

/-- The reference's. -/
theorem frame_ref (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r hr => ⟨fun c => (hr.1 c).2, hr.2⟩) (Cert.MoveRef.run_main m ρ)

/-! ## The value -/

/-- A device's block of a whole array, cut along the rows of the mesh. -/
abbrev piece {α : Type} (c : Dev nD) (X : (⟨3, ![4, 2048, 1024]⟩ : Shape).Idx → α) : S1x2048x1024.Idx → α :=
  Layout.blockN ⟨3, ![1, 2048, 1024]⟩ ⟨3, ![4, 2048, 1024]⟩ (Layout.meshBlock [2, 4, 4] ![[1], [], []] c) X

/-- The place in the whole array of a place in row `y`'s block. -/
def at3 (y : Fin 4) (i : S1x2048x1024.Idx) : (⟨3, ![4, 2048, 1024]⟩ : Shape).Idx := fun a => match a with
  | ⟨0, _⟩ => y
  | ⟨1, _⟩ => i 1
  | ⟨2, _⟩ => i 2

theorem piece_apply {α : Type} (c : Dev nD) (X : (⟨3, ![4, 2048, 1024]⟩ : Shape).Idx → α) (i : S1x2048x1024.Idx) :
    piece c X i = X (at3 (row c) i) := by
  refine congrArg X (funext fun a => Fin.ext ?_)
  have h0 : (i 0).val < 1 := (i 0).isLt
  fin_cases a
  · show (c.val / 4 % 4 * 1 + 0) * 1 + (i 0).val = c.val / 4 % 4
    omega
  · show 0 * 2048 + (i 1).val = (i 1).val
    omega
  · show 0 * 1024 + (i 2).val = (i 2).val
    omega

/-- Each device's result is its block of the reference's result. -/
theorem out_piece (σ : Equiv.Perm (Fin 4)) (m : (ℓ : Loc nD τ sig) → Buf (Elt F) ℓ) (X : (⟨3, ![4, 2048, 1024]⟩ : Shape).Idx → Elt F .f32)
    (hX : ∀ c : Dev nD, m ((c.tc : Thread nD τ).loc main_arg0) = piece c X) (c : Dev nD) :
    outF σ m c = piece c (Cert.MoveRef.refOut X (Cert.MoveRef.table σ)) := by
  funext i
  rw [piece_apply, Cert.MoveRef.refOut_eq σ X (at3 (row c) i) (at3 (σ.symm (row c)) i) rfl rfl rfl]
  unfold outF xF
  refine (congrFun (hX _) i).trans ?_
  rw [piece_apply, row_dev]

/-- Both programs run, and each device's result ends as its block of the reference's. -/
theorem equation (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (h : ∃ σ : Equiv.Perm (Fin 4), PreOK σ m)
    (hin : ∀ c : Dev nD, m ((c.tc : Thread nD τ).loc main_arg0)
        = piece c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v0 : Buf (Elt F) (((0 : Dev Cert.ReferenceIdeal.nD).tc : Thread Cert.ReferenceIdeal.nD Cert.ReferenceIdeal.τ).loc Cert.ReferenceIdeal.main_v7),
      θ_run (defs (F := F)) (onTc (τ := τ) (main (F := F))) ⟨m, fun _ => 0, g⟩ (fun r => ∀ c : Dev nD,
          r.2.mem ((c.tc : Thread nD τ).loc main_v1) = piece c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hσ⟩ := h
  have ht : m' (((0 : Dev Cert.ReferenceIdeal.nD).tc : Thread Cert.ReferenceIdeal.nD Cert.ReferenceIdeal.τ).loc Cert.ReferenceIdeal.main_arg1)
      = Cert.MoveRef.table σ := (hin 0).2.symm.trans (hσ 0)
  refine ⟨Cert.MoveRef.refOut (m' (((0 : Dev Cert.ReferenceIdeal.nD).tc : Thread Cert.ReferenceIdeal.nD Cert.ReferenceIdeal.τ).loc Cert.ReferenceIdeal.main_arg0))
    (Cert.MoveRef.table σ), ?_, ?_⟩
  · refine (θ_run defs _ _).mono (fun r hr c => ?_) (run_main σ m g hσ)
    exact ⟨(hr.1 c).1.trans (out_piece σ m _ (fun c => (hin c).1) c), (hr.1 c).2⟩
  · refine (θ_run Cert.ReferenceIdeal.defs _ _).mono (fun r hr => ?_) (Cert.MoveRef.run_main m' g')
    have h0 := hr.1 0
    rw [ht] at h0
    exact ⟨h0.1, h0.2.1, h0.2.2.trans ht.symm⟩

end Cert.MoveProof

end
-- ==== Proof.lean ====
/- The certificate's claims, put together: the reference's frame with no condition, then for each of the twenty-four
   permutations of four rows the frames of the kernel and of its idealization and the equation, each where every device's
   table lists that permutation. One theorem per kind of claim (Proof/Equation.lean) serves them all. -/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal

@[expose] public section

set_option maxRecDepth 100000

noncomputable section

namespace Cert.Proof

open Idealize.ShloMosaic Idealize.SL.Sem Cert.MoveProof

/-- The side conditions of a predicate on the table: its four slices and their reshape. -/
theorem slices : Cert.KernelIdeal.S4.Slices ![0] Cert.KernelIdeal.S1 ∧ Cert.KernelIdeal.S1.ShapeCasts Cert.KernelIdeal.S_ ∧ Cert.KernelIdeal.S4.Slices ![1] Cert.KernelIdeal.S1
    ∧ Cert.KernelIdeal.S4.Slices ![2] Cert.KernelIdeal.S1 ∧ Cert.KernelIdeal.S4.Slices ![3] Cert.KernelIdeal.S1 := by decide +kernel

theorem claim : Cert.Claim := by
  refine ⟨Cert.ReferenceIdeal.Gen.facts, Cert.Kernel.Gen.facts, Cert.KernelIdeal.Gen.facts, ?_⟩
  iterate 48 refine Exists.intro ⟨slices.1, slices.2.1, slices.2.2.1, slices.2.2.2.1, slices.2.2.2.2⟩ ?_
  refine And.intro (fun m ρ _ => frame_ref m ρ) ?_
  iterate 24 refine And.intro (fun m ρ _ => frame_ref m ρ) ?_
  iterate 24 refine And.intro (fun m ρ h => frame_kernel m ρ (ok_of_pre (by decide +kernel) m h)) ?_
  iterate 24 refine And.intro (fun m ρ h => frame_ideal m ρ (ok_of_pre (by decide +kernel) m h)) ?_
  refine And.intro trivial ?_
  iterate 23 refine And.intro (fun m g m' g' h hin => equation m g m' g' (ok_of_pre (by decide +kernel) m h) hin) ?_
  exact fun m g m' g' h hin => equation m g m' g' (ok_of_pre (by decide +kernel) m h) hin

end Cert.Proof

end
